-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_problem_inputs [hPre_problem_inputs : Cert.Pre_problem_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_problem_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_problem_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_problem_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_problem_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_problem_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_problem_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.1 = (fun _ => 1#1)
    ∧ (Cert.Pre_problem_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.1 = (fun _ => 1#1)
    ∧ (Cert.Pre_problem_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_problem_inputs [hPre_problem_inputs : Cert.Pre_problem_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_problem_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_problem_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_problem_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_problem_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_problem_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_problem_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.1 = (fun _ => 1#1)
    ∧ (Cert.Pre_problem_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.1 = (fun _ => 1#1)
    ∧ (Cert.Pre_problem_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_problem_inputs [hKernelIdeal : Cert.KernelIdeal.Facts] [hPre_problem_inputs : Cert.Pre_problem_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_problem_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_problem_inputs [hReferenceIdeal : Cert.ReferenceIdeal.Facts] [hPre_problem_inputs : Cert.Pre_problem_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_problem_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "pi_over_rc" .f32 0x3F65C8FA#32 ((13176795 / 14680064 : ℝ) : EReal)
  ∧ IdealRules.named_const.Statement Cert.KernelIdeal.κ "hc0" .f32 0x3EFB14BE#32 (((Real.sqrt 1083047892481599) * (Real.sqrt 4503599627370496)⁻¹ : ℝ) : EReal)
  ∧ IdealRules.named_const.Statement Cert.KernelIdeal.κ "hc1" .f32 0x3ED4DB31#32 (((Real.sqrt 48648847445143) * (Real.sqrt 281474976710656)⁻¹ : ℝ) : EReal)
  ∧ IdealRules.named_const.Statement Cert.KernelIdeal.κ "hc5" .f32 0xBE8E39D9#32 ((-((Real.sqrt 21719890811535) * (Real.sqrt 281474976710656)⁻¹) : ℝ) : EReal)
  ∧ IdealRules.named_const.Statement Cert.KernelIdeal.κ "hc7" .f32 0xBEFB14BF#32 ((-((Real.sqrt 4332191596110975) * (Real.sqrt 18014398509481984)⁻¹) : ℝ) : EReal)
  ∧ IdealRules.named_const.Statement Cert.KernelIdeal.κ "hs3_twice" .f32 0x3F7B14BE#32 ((2 * ((Real.sqrt 270761969847327) * (Real.sqrt 1125899906842624)⁻¹) : ℝ) : EReal)
  ∧ IdealRules.named_const.Statement Cert.KernelIdeal.κ "hs4_half" .f32 0x3E7B14BE#32 (((1 / 2) * ((Real.sqrt 1083047840112423) * (Real.sqrt 4503599627370496)⁻¹) : ℝ) : EReal)
  ∧ IdealRules.named_const.Statement Cert.KernelIdeal.κ "hs6" .f32 0x3E8E39D9#32 (((Real.sqrt 21719890811535) * (Real.sqrt 281474976710656)⁻¹ : ℝ) : EReal)
  ∧ IdealRules.named_const.Statement Cert.KernelIdeal.κ "neg_eta_log2e" .f32 0xC138AA3B#32 ((-(8 * (Real.log 2)⁻¹) : ℝ) : EReal)

def algebraic_KernelIdeal_ReferenceIdeal_pre_problem_inputs [hKernelIdeal : Cert.KernelIdeal.Facts] [hReferenceIdeal : Cert.ReferenceIdeal.Facts] [hPre_problem_inputs : Cert.Pre_problem_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_problem_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_problem_inputs : Cert.Pre_problem_inputs.Facts),
    quiescent_Kernel (hKernel := hKernel)
    ∧ quiescent_KernelIdeal (hKernelIdeal := hKernelIdeal)
    ∧ quiescent_KernelIdeal_pre_problem_inputs (hKernelIdeal := hKernelIdeal) (hPre_problem_inputs := hPre_problem_inputs)
    ∧ quiescent_ReferenceIdeal (hReferenceIdeal := hReferenceIdeal)
    ∧ quiescent_ReferenceIdeal_pre_problem_inputs (hReferenceIdeal := hReferenceIdeal) (hPre_problem_inputs := hPre_problem_inputs)
    ∧ preserves_Kernel_KernelIdeal
    ∧ algebraic_KernelIdeal_ReferenceIdeal_pre_problem_inputs (hKernelIdeal := hKernelIdeal) (hReferenceIdeal := hReferenceIdeal) (hPre_problem_inputs := hPre_problem_inputs)
-- ==== Pre_problem_inputs.lean ====
abbrev S128x128 : Shape := ⟨2, ![128, 128]⟩
abbrev S128 : Shape := ⟨1, ![128]⟩
abbrev S32x4 : Shape := ⟨2, ![32, 4]⟩
abbrev S128x8001x3 : Shape := ⟨3, ![128, 8001, 3]⟩
abbrev S4 : Shape := ⟨1, ![4]⟩
abbrev S8 : Shape := ⟨1, ![8]⟩
abbrev S128x1x1 : Shape := ⟨3, ![128, 1, 1]⟩
abbrev S1x128x1 : Shape := ⟨3, ![1, 128, 1]⟩
abbrev S1x1x128 : Shape := ⟨3, ![1, 1, 128]⟩
abbrev S_ : Shape := ⟨0, ![]⟩
abbrev S128x1 : Shape := ⟨2, ![128, 1]⟩
abbrev S1x128 : Shape := ⟨2, ![1, 128]⟩
abbrev S1x128x128 : Shape := ⟨3, ![1, 128, 128]⟩
abbrev S128x128x1 : Shape := ⟨3, ![128, 128, 1]⟩
abbrev S128x1x128 : Shape := ⟨3, ![128, 1, 128]⟩
abbrev S128x128x128 : Shape := ⟨3, ![128, 128, 128]⟩
abbrev S128x8001x1 : Shape := ⟨3, ![128, 8001, 1]⟩
abbrev S128x8001 : Shape := ⟨2, ![128, 8001]⟩
abbrev S128x8000x3 : Shape := ⟨3, ![128, 8000, 3]⟩
abbrev S128x8000x1 : Shape := ⟨3, ![128, 8000, 1]⟩
abbrev S128x8000 : Shape := ⟨2, ![128, 8000]⟩
abbrev S32x1 : Shape := ⟨2, ![32, 1]⟩
abbrev S32 : Shape := ⟨1, ![32]⟩
abbrev S4x8 : Shape := ⟨2, ![4, 8]⟩
abbrev S4x1 : Shape := ⟨2, ![4, 1]⟩
abbrev S1x8 : Shape := ⟨2, ![1, 8]⟩

class Facts : Prop where
  bcast_S128_S128x1x1_0 : S128.BroadcastsInDim S128x1x1 (![0] : Fin 1 → Fin S128x1x1.rank)
  bcast_S128_S1x128x1_1 : S128.BroadcastsInDim S1x128x1 (![1] : Fin 1 → Fin S1x128x1.rank)
  bcast_S128_S1x1x128_2 : S128.BroadcastsInDim S1x1x128 (![2] : Fin 1 → Fin S1x1x128.rank)
  transposes_S128x128_S128x128_1_0 : S128x128.Transposes [1, 0] S128x128
  bcast_S_S128x128 : S_.BroadcastsInDim S128x128 (![] : Fin 0 → Fin S128x128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S128x128_S1x128x128_1_2 : S128x128.BroadcastsInDim S1x128x128 (![1, 2] : Fin 2 → Fin S1x128x128.rank)
  bcast_S128x128_S128x128x1_0_1 : S128x128.BroadcastsInDim S128x128x1 (![0, 1] : Fin 2 → Fin S128x128x1.rank)
  bcast_S128x128_S128x1x128_0_2 : S128x128.BroadcastsInDim S128x1x128 (![0, 2] : Fin 2 → Fin S128x1x128.rank)
  bcast_S128x128x1_S128x128x128_0_1_2 : S128x128x1.BroadcastsInDim S128x128x128 (![0, 1, 2] : Fin 3 → Fin S128x128x128.rank)
  bcast_S128x1x128_S128x128x128_0_1_2 : S128x1x128.BroadcastsInDim S128x128x128 (![0, 1, 2] : Fin 3 → Fin S128x128x128.rank)
  bcast_S1x128x128_S128x128x128_0_1_2 : S1x128x128.BroadcastsInDim S128x128x128 (![0, 1, 2] : Fin 3 → Fin S128x128x128.rank)
  bcast_S128x1x1_S128x128x1_0_1_2 : S128x1x1.BroadcastsInDim S128x128x1 (![0, 1, 2] : Fin 3 → Fin S128x128x1.rank)
  bcast_S1x128x1_S128x128x1_0_1_2 : S1x128x1.BroadcastsInDim S128x128x1 (![0, 1, 2] : Fin 3 → Fin S128x128x1.rank)
  bcast_S128x1x1_S128x1x128_0_1_2 : S128x1x1.BroadcastsInDim S128x1x128 (![0, 1, 2] : Fin 3 → Fin S128x1x128.rank)
  bcast_S1x1x128_S128x1x128_0_1_2 : S1x1x128.BroadcastsInDim S128x1x128 (![0, 1, 2] : Fin 3 → Fin S128x1x128.rank)
  bcast_S1x128x1_S1x128x128_0_1_2 : S1x128x1.BroadcastsInDim S1x128x128 (![0, 1, 2] : Fin 3 → Fin S1x128x128.rank)
  bcast_S1x1x128_S1x128x128_0_1_2 : S1x1x128.BroadcastsInDim S1x128x128 (![0, 1, 2] : Fin 3 → Fin S1x128x128.rank)
  slices_S128x8001x3_S128x8001x1_0_0_0 : S128x8001x3.Slices ![0, 0, 0] S128x8001x1
  shapeCasts_S128x8001x1_S128x8001 : S128x8001x1.ShapeCasts S128x8001
  slices_S128x8001x3_S128x8001x1_0_0_1 : S128x8001x3.Slices ![0, 0, 1] S128x8001x1
  slices_S128x8001x3_S128x8001x1_0_0_2 : S128x8001x3.Slices ![0, 0, 2] S128x8001x1
  bcast_S128x1_S128x8001_0_1 : S128x1.BroadcastsInDim S128x8001 (![0, 1] : Fin 2 → Fin S128x8001.rank)
  bcast_S_S128x8001 : S_.BroadcastsInDim S128x8001 (![] : Fin 0 → Fin S128x8001.rank)
  slices_S128x8001x3_S128x8000x3_0_0_0 : S128x8001x3.Slices ![0, 0, 0] S128x8000x3
  slices_S128x8001x3_S128x8000x3_0_1_0 : S128x8001x3.Slices ![0, 1, 0] S128x8000x3
  slices_S128x8000x3_S128x8000x1_0_0_1 : S128x8000x3.Slices ![0, 0, 1] S128x8000x1
  shapeCasts_S128x8000x1_S128x8000 : S128x8000x1.ShapeCasts S128x8000
  slices_S128x8000x3_S128x8000x1_0_0_2 : S128x8000x3.Slices ![0, 0, 2] S128x8000x1
  slices_S32x4_S32x1_0_0 : S32x4.Slices ![0, 0] S32x1
  shapeCasts_S32x1_S32 : S32x1.ShapeCasts S32
  shapeCasts_S32_S4x8 : S32.ShapeCasts S4x8
  slices_S32x4_S32x1_0_1 : S32x4.Slices ![0, 1] S32x1
  slices_S32x4_S32x1_0_2 : S32x4.Slices ![0, 2] S32x1
  slices_S32x4_S32x1_0_3 : S32x4.Slices ![0, 3] S32x1
  bcast_S_S4x8 : S_.BroadcastsInDim S4x8 (![] : Fin 0 → Fin S4x8.rank)
  bcast_S4_S4x1_0 : S4.BroadcastsInDim S4x1 (![0] : Fin 1 → Fin S4x1.rank)
  bcast_S4x1_S4x8_0_1 : S4x1.BroadcastsInDim S4x8 (![0, 1] : Fin 2 → Fin S4x8.rank)
  bcast_S8_S1x8_1 : S8.BroadcastsInDim S1x8 (![1] : Fin 1 → Fin S1x8.rank)
  bcast_S1x8_S4x8_0_1 : S1x8.BroadcastsInDim S4x8 (![0, 1] : Fin 2 → Fin S4x8.rank)
  slices_S128_S8_0 : S128.Slices ![0] S8
  bcast_S_S1x8 : S_.BroadcastsInDim S1x8 (![] : Fin 0 → Fin S1x8.rank)

variable [Facts]

noncomputable abbrev lit0 : Fin 4 → BitVec 32 := fun
  | 0 => 0x3F666666#32 | 1 => 0x3FC66666#32 | 2 => 0x400CCCCD#32 | 3 => 0x40366666#32
  | _ => 0#32

noncomputable abbrev lit1 : Fin 8 → BitVec 32 := fun
  | 0 => 0x3DC7C5C2#32 | 1 => 0x3E8E39DA#32 | 2 => 0x3ED4DB31#32 | 3 => 0x3EFB14BE#32 | 4 => 0x3EFB14BE#32 | 5 => 0x3ED4DB32#32 | 6 => 0x3E8E39D9#32 | 7 => 0x3DC7C5C1#32
  | _ => 0#32

noncomputable abbrev lit2 : Fin 8 → BitVec 32 := fun
  | 0 => 0x3EFB14BE#32 | 1 => 0x3ED4DB31#32 | 2 => 0x3E8E39DA#32 | 3 => 0x3DC7C5C4#32 | 4 => 0xBDC7C5CA#32 | 5 => 0xBE8E39D9#32 | 6 => 0xBED4DB32#32 | 7 => 0xBEFB14BF#32
  | _ => 0#32

noncomputable abbrev lit3 : Fin 8 → BitVec 32 := fun
  | 0 => 0x3EFB14BE#32 | 1 => 0x3ED4DB31#32 | 2 => 0x3E8E39DA#32 | 3 => 0x3DC7C5C4#32 | 4 => 0xBDC7C5CA#32 | 5 => 0xBE8E39D9#32 | 6 => 0xBED4DB32#32 | 7 => 0xBEFB14BF#32
  | _ => 0#32

def fn_where {F : FTy → Type} [FloatOps F] (arg0 : IVec S1x8 1) (arg1 : IVec S4x8 1) (arg2 : IVec S4x8 1) : IVec S4x8 1 :=
  let v0 : IVec S4x8 1 := broadcastInDim S4x8 ![0, 1] bcast_S1x8_S4x8_0_1 arg0
  let v1 : IVec S4x8 1 := select v0 arg1 arg2
  v1

def fn_part6 {F : FTy → Type} [FloatOps F] (main_v5 : IVec S128x128 1) (main_v13 : IVec S128x128 1) (main_v36 : IVec S128x128x128 1) (main_v57 : IVec S128x8001 1) (main_v76 : IVec S128x8000 1) (main_v93 : IVec S4x8 1) (main_v96 : IVec S4x8 1) (main_v111 : IVec S4x8 1) (main_v117 : IVec S4x8 1) (main_v127 : IVec S1x8 1) : IVec S128x128 1 × IVec S128x128 1 × IVec S128x128x128 1 × IVec S128x8001 1 × IVec S128x8000 1 × IVec S4x8 1 × IVec S4x8 1 × IVec S4x8 1 :=
  let main_v128 : IVec S4x8 1 := fn_where (F := F) main_v127 main_v111 main_v117
  (main_v5, main_v13, main_v36, main_v57, main_v76, main_v93, main_v96, main_v128)

def fn_part5 {F : FTy → Type} [FloatOps F] (main_cst_2 : FVec F S8 .f32) (main_v0 : IVec S128 32) (main_v5 : IVec S128x128 1) (main_v13 : IVec S128x128 1) (main_v36 : IVec S128x128x128 1) (main_v57 : IVec S128x8001 1) (main_v76 : IVec S128x8000 1) (main_v93 : IVec S4x8 1) (main_v96 : IVec S4x8 1) (main_v99 : FVec F S4x8 .f32) (main_v102 : FVec F S4x8 .f32) (main_v105 : IVec S4x8 1) (main_v108 : FVec F S4x8 .f32) : IVec S128x128 1 × IVec S128x128 1 × IVec S128x128x128 1 × IVec S128x8001 1 × IVec S128x8000 1 × IVec S4x8 1 × IVec S4x8 1 × IVec S4x8 1 :=
  let main_cst_9 : FVec F S_ .f32 := constant S_ .f32 0x00000000#32
  let main_v109 : FVec F S4x8 .f32 := broadcastInDim S4x8 ![] bcast_S_S4x8 main_cst_9
  let main_v110 : IVec S4x8 1 := cmpf .ogt main_v108 main_v109
  let main_v111 : IVec S4x8 1 := andi main_v105 main_v110
  let main_v112 : FVec F S1x8 .f32 := broadcastInDim S1x8 ![1] bcast_S8_S1x8_1 main_cst_2
  let main_v113 : FVec F S4x8 .f32 := broadcastInDim S4x8 ![0, 1] bcast_S1x8_S4x8_0_1 main_v112
  let main_v114 : IVec S4x8 1 := cmpf .oeq main_v99 main_v113
  let main_cst_10 : FVec F S_ .f32 := constant S_ .f32 0x00000000#32
  let main_v115 : FVec F S4x8 .f32 := broadcastInDim S4x8 ![] bcast_S_S4x8 main_cst_10
  let main_v116 : IVec S4x8 1 := cmpf .ogt main_v102 main_v115
  let main_v117 : IVec S4x8 1 := andi main_v114 main_v116
  let main_v118 : IVec S8 32 := (extractStridedSlice S8 ![0] · slices_S128_S8_0) main_v0
  let main_v119 : IVec S1x8 32 := broadcastInDim S1x8 ![1] bcast_S8_S1x8_1 main_v118
  let main_c_11 : IVec S_ 32 := constantI S_ 32 1#32
  let main_v120 : IVec S1x8 32 := broadcastInDim S1x8 ![] bcast_S_S1x8 main_c_11
  let main_v121 : IVec S1x8 1 := cmpi .sle main_v119 main_v120
  let main_c_12 : IVec S_ 32 := constantI S_ 32 5#32
  let main_v122 : IVec S1x8 32 := broadcastInDim S1x8 ![] bcast_S_S1x8 main_c_12
  let main_v123 : IVec S1x8 1 := cmpi .eq main_v119 main_v122
  let main_v124 : IVec S1x8 1 := ori main_v121 main_v123
  let main_c_13 : IVec S_ 32 := constantI S_ 32 7#32
  let main_v125 : IVec S1x8 32 := broadcastInDim S1x8 ![] bcast_S_S1x8 main_c_13
  let main_v126 : IVec S1x8 1 := cmpi .eq main_v119 main_v125
  let main_v127 : IVec S1x8 1 := ori main_v124 main_v126
  fn_part6 (F := F) main_v5 main_v13 main_v36 main_v57 main_v76 main_v93 main_v96 main_v111 main_v117 main_v127

def fn_part4 {F : FTy → Type} [FloatOps F] (main_cst : FVec F S4 .f32) (main_cst_0 : FVec F S8 .f32) (main_cst_1 : FVec F S8 .f32) (main_cst_2 : FVec F S8 .f32) (main_v0 : IVec S128 32) (main_v5 : IVec S128x128 1) (main_v13 : IVec S128x128 1) (main_v36 : IVec S128x128x128 1) (main_v57 : IVec S128x8001 1) (main_v76 : IVec S128x8000 1) (main_v79 : FVec F S4x8 .f32) (main_v82 : FVec F S4x8 .f32) (main_v85 : FVec F S4x8 .f32) (main_v88 : FVec F S4x8 .f32) : IVec S128x128 1 × IVec S128x128 1 × IVec S128x128x128 1 × IVec S128x8001 1 × IVec S128x8000 1 × IVec S4x8 1 × IVec S4x8 1 × IVec S4x8 1 :=
  let main_cst_5 : FVec F S_ .f32 := constant S_ .f32 0x42000000#32
  let main_v89 : FVec F S4x8 .f32 := broadcastInDim S4x8 ![] bcast_S_S4x8 main_cst_5
  let main_v90 : IVec S4x8 1 := cmpf .oeq main_v79 main_v89
  let main_cst_6 : FVec F S_ .f32 := constant S_ .f32 0x41000000#32
  let main_v91 : FVec F S4x8 .f32 := broadcastInDim S4x8 ![] bcast_S_S4x8 main_cst_6
  let main_v92 : IVec S4x8 1 := cmpf .oeq main_v85 main_v91
  let main_v93 : IVec S4x8 1 := andi main_v90 main_v92
  let main_v94 : FVec F S4x1 .f32 := broadcastInDim S4x1 ![0] bcast_S4_S4x1_0 main_cst
  let main_v95 : FVec F S4x8 .f32 := broadcastInDim S4x8 ![0, 1] bcast_S4x1_S4x8_0_1 main_v94
  let main_v96 : IVec S4x8 1 := cmpf .oeq main_v88 main_v95
  let main_v97 : FVec F S4x8 .f32 := Host.cos main_v82
  let main_cst_7 : FVec F S_ .f32 := constant S_ .f32 0x3F000000#32
  let main_v98 : FVec F S4x8 .f32 := broadcastInDim S4x8 ![] bcast_S_S4x8 main_cst_7
  let main_v99 : FVec F S4x8 .f32 := mulf main_v98 main_v97
  let main_v100 : FVec F S4x8 .f32 := Host.sin main_v82
  let main_cst_8 : FVec F S_ .f32 := constant S_ .f32 0x3F000000#32
  let main_v101 : FVec F S4x8 .f32 := broadcastInDim S4x8 ![] bcast_S_S4x8 main_cst_8
  let main_v102 : FVec F S4x8 .f32 := mulf main_v101 main_v100
  let main_v103 : FVec F S1x8 .f32 := broadcastInDim S1x8 ![1] bcast_S8_S1x8_1 main_cst_0
  let main_v104 : FVec F S4x8 .f32 := broadcastInDim S4x8 ![0, 1] bcast_S1x8_S4x8_0_1 main_v103
  let main_v105 : IVec S4x8 1 := cmpf .oeq main_v102 main_v104
  let main_v106 : FVec F S1x8 .f32 := broadcastInDim S1x8 ![1] bcast_S8_S1x8_1 main_cst_1
  let main_v107 : FVec F S4x8 .f32 := broadcastInDim S4x8 ![0, 1] bcast_S1x8_S4x8_0_1 main_v106
  let main_v108 : FVec F S4x8 .f32 := mulf main_v107 main_v99
  fn_part5 (F := F) main_cst_2 main_v0 main_v5 main_v13 main_v36 main_v57 main_v76 main_v93 main_v96 main_v99 main_v102 main_v105 main_v108

def fn_part3 {F : FTy → Type} [FloatOps F] (main_arg2 : FVec F S32x4 .f32) (main_cst : FVec F S4 .f32) (main_cst_0 : FVec F S8 .f32) (main_cst_1 : FVec F S8 .f32) (main_cst_2 : FVec F S8 .f32) (main_v0 : IVec S128 32) (main_v5 : IVec S128x128 1) (main_v13 : IVec S128x128 1) (main_v36 : IVec S128x128x128 1) (main_v57 : IVec S128x8001 1) (main_v58 : IVec S128x8000x3 32) (main_v59 : IVec S128x8000x3 32) (main_v64 : IVec S128x8000 1) : IVec S128x128 1 × IVec S128x128 1 × IVec S128x128x128 1 × IVec S128x8001 1 × IVec S128x8000 1 × IVec S4x8 1 × IVec S4x8 1 × IVec S4x8 1 :=
  let main_v65 : IVec S128x8000x1 32 := (extractStridedSlice S128x8000x1 ![0, 0, 1] · slices_S128x8000x3_S128x8000x1_0_0_1) main_v58
  let main_v66 : IVec S128x8000 32 := shapeCast S128x8000 main_v65 shapeCasts_S128x8000x1_S128x8000
  let main_v67 : IVec S128x8000x1 32 := (extractStridedSlice S128x8000x1 ![0, 0, 1] · slices_S128x8000x3_S128x8000x1_0_0_1) main_v59
  let main_v68 : IVec S128x8000 32 := shapeCast S128x8000 main_v67 shapeCasts_S128x8000x1_S128x8000
  let main_v69 : IVec S128x8000 1 := cmpi .eq main_v66 main_v68
  let main_v70 : IVec S128x8000x1 32 := (extractStridedSlice S128x8000x1 ![0, 0, 2] · slices_S128x8000x3_S128x8000x1_0_0_2) main_v58
  let main_v71 : IVec S128x8000 32 := shapeCast S128x8000 main_v70 shapeCasts_S128x8000x1_S128x8000
  let main_v72 : IVec S128x8000x1 32 := (extractStridedSlice S128x8000x1 ![0, 0, 2] · slices_S128x8000x3_S128x8000x1_0_0_2) main_v59
  let main_v73 : IVec S128x8000 32 := shapeCast S128x8000 main_v72 shapeCasts_S128x8000x1_S128x8000
  let main_v74 : IVec S128x8000 1 := cmpi .slt main_v71 main_v73
  let main_v75 : IVec S128x8000 1 := andi main_v69 main_v74
  let main_v76 : IVec S128x8000 1 := ori main_v64 main_v75
  let main_v77 : FVec F S32x1 .f32 := (extractStridedSlice S32x1 ![0, 0] · slices_S32x4_S32x1_0_0) main_arg2
  let main_v78 : FVec F S32 .f32 := shapeCast S32 main_v77 shapeCasts_S32x1_S32
  let main_v79 : FVec F S4x8 .f32 := shapeCast S4x8 main_v78 shapeCasts_S32_S4x8
  let main_v80 : FVec F S32x1 .f32 := (extractStridedSlice S32x1 ![0, 1] · slices_S32x4_S32x1_0_1) main_arg2
  let main_v81 : FVec F S32 .f32 := shapeCast S32 main_v80 shapeCasts_S32x1_S32
  let main_v82 : FVec F S4x8 .f32 := shapeCast S4x8 main_v81 shapeCasts_S32_S4x8
  let main_v83 : FVec F S32x1 .f32 := (extractStridedSlice S32x1 ![0, 2] · slices_S32x4_S32x1_0_2) main_arg2
  let main_v84 : FVec F S32 .f32 := shapeCast S32 main_v83 shapeCasts_S32x1_S32
  let main_v85 : FVec F S4x8 .f32 := shapeCast S4x8 main_v84 shapeCasts_S32_S4x8
  let main_v86 : FVec F S32x1 .f32 := (extractStridedSlice S32x1 ![0, 3] · slices_S32x4_S32x1_0_3) main_arg2
  let main_v87 : FVec F S32 .f32 := shapeCast S32 main_v86 shapeCasts_S32x1_S32
  let main_v88 : FVec F S4x8 .f32 := shapeCast S4x8 main_v87 shapeCasts_S32_S4x8
  fn_part4 (F := F) main_cst main_cst_0 main_cst_1 main_cst_2 main_v0 main_v5 main_v13 main_v36 main_v57 main_v76 main_v79 main_v82 main_v85 main_v88

def fn_part2 {F : FTy → Type} [FloatOps F] (main_arg2 : FVec F S32x4 .f32) (main_arg3 : IVec S128x8001x3 32) (main_cst : FVec F S4 .f32) (main_cst_0 : FVec F S8 .f32) (main_cst_1 : FVec F S8 .f32) (main_cst_2 : FVec F S8 .f32) (main_v0 : IVec S128 32) (main_v5 : IVec S128x128 1) (main_v13 : IVec S128x128 1) (main_v36 : IVec S128x128x128 1) (main_v38 : IVec S128x8001 32) (main_v40 : IVec S128x8001 32) (main_v42 : IVec S128x8001 32) : IVec S128x128 1 × IVec S128x128 1 × IVec S128x128x128 1 × IVec S128x8001 1 × IVec S128x8000 1 × IVec S4x8 1 × IVec S4x8 1 × IVec S4x8 1 :=
  let main_v43 : IVec S128x1 32 := broadcastInDim S128x1 ![0] bcast_S128_S128x1_0 main_v0
  let main_v44 : IVec S128x8001 32 := broadcastInDim S128x8001 ![0, 1] bcast_S128x1_S128x8001_0_1 main_v43
  let main_v45 : IVec S128x8001 1 := cmpi .eq main_v38 main_v44
  let main_c : IVec S_ 32 := constantI S_ 32 0#32
  let main_v46 : IVec S128x8001 32 := broadcastInDim S128x8001 ![] bcast_S_S128x8001 main_c
  let main_v47 : IVec S128x8001 1 := cmpi .sge main_v40 main_v46
  let main_v48 : IVec S128x8001 1 := andi main_v45 main_v47
  let main_v49 : IVec S128x8001 1 := cmpi .slt main_v40 main_v42
  let main_v50 : IVec S128x8001 1 := andi main_v48 main_v49
  let main_c_4 : IVec S_ 32 := constantI S_ 32 128#32
  let main_v51 : IVec S128x8001 32 := broadcastInDim S128x8001 ![] bcast_S_S128x8001 main_c_4
  let main_v52 : IVec S128x8001 1 := cmpi .slt main_v42 main_v51
  let main_v53 : IVec S128x8001 1 := andi main_v50 main_v52
  let main_v54 : IVec S128x8001 1 := cmpi .ne main_v40 main_v38
  let main_v55 : IVec S128x8001 1 := andi main_v53 main_v54
  let main_v56 : IVec S128x8001 1 := cmpi .ne main_v42 main_v38
  let main_v57 : IVec S128x8001 1 := andi main_v55 main_v56
  let main_v58 : IVec S128x8000x3 32 := (extractStridedSlice S128x8000x3 ![0, 0, 0] · slices_S128x8001x3_S128x8000x3_0_0_0) main_arg3
  let main_v59 : IVec S128x8000x3 32 := (extractStridedSlice S128x8000x3 ![0, 1, 0] · slices_S128x8001x3_S128x8000x3_0_1_0) main_arg3
  let main_v60 : IVec S128x8000x1 32 := (extractStridedSlice S128x8000x1 ![0, 0, 1] · slices_S128x8000x3_S128x8000x1_0_0_1) main_v58
  let main_v61 : IVec S128x8000 32 := shapeCast S128x8000 main_v60 shapeCasts_S128x8000x1_S128x8000
  let main_v62 : IVec S128x8000x1 32 := (extractStridedSlice S128x8000x1 ![0, 0, 1] · slices_S128x8000x3_S128x8000x1_0_0_1) main_v59
  let main_v63 : IVec S128x8000 32 := shapeCast S128x8000 main_v62 shapeCasts_S128x8000x1_S128x8000
  let main_v64 : IVec S128x8000 1 := cmpi .slt main_v61 main_v63
  fn_part3 (F := F) main_arg2 main_cst main_cst_0 main_cst_1 main_cst_2 main_v0 main_v5 main_v13 main_v36 main_v57 main_v58 main_v59 main_v64

def fn_part1 {F : FTy → Type} [FloatOps F] (main_arg2 : FVec F S32x4 .f32) (main_arg3 : IVec S128x8001x3 32) (main_cst : FVec F S4 .f32) (main_cst_0 : FVec F S8 .f32) (main_cst_1 : FVec F S8 .f32) (main_cst_2 : FVec F S8 .f32) (main_v0 : IVec S128 32) (main_v1 : IVec S128x1x1 32) (main_v2 : IVec S1x128x1 32) (main_v3 : IVec S1x1x128 32) (main_v5 : IVec S128x128 1) (main_v13 : IVec S128x128 1) (main_v14 : FVec F S1x128x128 .f32) (main_v17 : FVec F S128x128x128 .f32) (main_v18 : FVec F S128x128x128 .f32) : IVec S128x128 1 × IVec S128x128 1 × IVec S128x128x128 1 × IVec S128x8001 1 × IVec S128x8000 1 × IVec S4x8 1 × IVec S4x8 1 × IVec S4x8 1 :=
  let main_v19 : FVec F S128x128x128 .f32 := addf main_v17 main_v18
  let main_v20 : FVec F S128x128x128 .f32 := broadcastInDim S128x128x128 ![0, 1, 2] bcast_S1x128x128_S128x128x128_0_1_2 main_v14
  let main_v21 : IVec S128x128x128 1 := cmpf .ole main_v20 main_v19
  let main_v22 : IVec S128x128x1 32 := broadcastInDim S128x128x1 ![0, 1, 2] bcast_S128x1x1_S128x128x1_0_1_2 main_v1
  let main_v23 : IVec S128x128x1 32 := broadcastInDim S128x128x1 ![0, 1, 2] bcast_S1x128x1_S128x128x1_0_1_2 main_v2
  let main_v24 : IVec S128x128x1 1 := cmpi .eq main_v22 main_v23
  let main_v25 : IVec S128x128x128 1 := broadcastInDim S128x128x128 ![0, 1, 2] bcast_S128x128x1_S128x128x128_0_1_2 main_v24
  let main_v26 : IVec S128x128x128 1 := ori main_v21 main_v25
  let main_v27 : IVec S128x1x128 32 := broadcastInDim S128x1x128 ![0, 1, 2] bcast_S128x1x1_S128x1x128_0_1_2 main_v1
  let main_v28 : IVec S128x1x128 32 := broadcastInDim S128x1x128 ![0, 1, 2] bcast_S1x1x128_S128x1x128_0_1_2 main_v3
  let main_v29 : IVec S128x1x128 1 := cmpi .eq main_v27 main_v28
  let main_v30 : IVec S128x128x128 1 := broadcastInDim S128x128x128 ![0, 1, 2] bcast_S128x1x128_S128x128x128_0_1_2 main_v29
  let main_v31 : IVec S128x128x128 1 := ori main_v26 main_v30
  let main_v32 : IVec S1x128x128 32 := broadcastInDim S1x128x128 ![0, 1, 2] bcast_S1x128x1_S1x128x128_0_1_2 main_v2
  let main_v33 : IVec S1x128x128 32 := broadcastInDim S1x128x128 ![0, 1, 2] bcast_S1x1x128_S1x128x128_0_1_2 main_v3
  let main_v34 : IVec S1x128x128 1 := cmpi .eq main_v32 main_v33
  let main_v35 : IVec S128x128x128 1 := broadcastInDim S128x128x128 ![0, 1, 2] bcast_S1x128x128_S128x128x128_0_1_2 main_v34
  let main_v36 : IVec S128x128x128 1 := ori main_v31 main_v35
  let main_v37 : IVec S128x8001x1 32 := (extractStridedSlice S128x8001x1 ![0, 0, 0] · slices_S128x8001x3_S128x8001x1_0_0_0) main_arg3
  let main_v38 : IVec S128x8001 32 := shapeCast S128x8001 main_v37 shapeCasts_S128x8001x1_S128x8001
  let main_v39 : IVec S128x8001x1 32 := (extractStridedSlice S128x8001x1 ![0, 0, 1] · slices_S128x8001x3_S128x8001x1_0_0_1) main_arg3
  let main_v40 : IVec S128x8001 32 := shapeCast S128x8001 main_v39 shapeCasts_S128x8001x1_S128x8001
  let main_v41 : IVec S128x8001x1 32 := (extractStridedSlice S128x8001x1 ![0, 0, 2] · slices_S128x8001x3_S128x8001x1_0_0_2) main_arg3
  let main_v42 : IVec S128x8001 32 := shapeCast S128x8001 main_v41 shapeCasts_S128x8001x1_S128x8001
  fn_part2 (F := F) main_arg2 main_arg3 main_cst main_cst_0 main_cst_1 main_cst_2 main_v0 main_v5 main_v13 main_v36 main_v38 main_v40 main_v42

def fn {F : FTy → Type} [FloatOps F] (main_arg0 : FVec F S128x128 .f32) (main_arg1 : FVec F S128 .f32) (main_arg2 : FVec F S32x4 .f32) (main_arg3 : IVec S128x8001x3 32) : IVec S128x128 1 × IVec S128x128 1 × IVec S128x128x128 1 × IVec S128x8001 1 × IVec S128x8000 1 × IVec S4x8 1 × IVec S4x8 1 × IVec S4x8 1 :=
  let main_cst : FVec F S4 .f32 := fun i => FloatOps.ofBits .f32 (lit0 (S4.rowMajor i))
  let main_cst_0 : FVec F S8 .f32 := fun i => FloatOps.ofBits .f32 (lit1 (S8.rowMajor i))
  let main_cst_1 : FVec F S8 .f32 := fun i => FloatOps.ofBits .f32 (lit2 (S8.rowMajor i))
  let main_cst_2 : FVec F S8 .f32 := fun i => FloatOps.ofBits .f32 (lit3 (S8.rowMajor i))
  let main_v0 : IVec S128 32 := iotaInDim S128 32 0
  let main_v1 : IVec S128x1x1 32 := broadcastInDim S128x1x1 ![0] bcast_S128_S128x1x1_0 main_v0
  let main_v2 : IVec S1x128x1 32 := broadcastInDim S1x128x1 ![1] bcast_S128_S1x128x1_1 main_v0
  let main_v3 : IVec S1x1x128 32 := broadcastInDim S1x1x128 ![2] bcast_S128_S1x1x128_2 main_v0
  let main_v4 : FVec F S128x128 .f32 := (transpose S128x128 [1, 0] · transposes_S128x128_S128x128_1_0) main_arg0
  let main_v5 : IVec S128x128 1 := cmpf .oeq main_arg0 main_v4
  let main_cst_3 : FVec F S_ .f32 := constant S_ .f32 0x3727C5AC#32
  let main_v6 : FVec F S128x128 .f32 := broadcastInDim S128x128 ![] bcast_S_S128x128 main_cst_3
  let main_v7 : IVec S128x128 1 := cmpf .oge main_arg0 main_v6
  let main_v8 : IVec S128x1 32 := broadcastInDim S128x1 ![0] bcast_S128_S128x1_0 main_v0
  let main_v9 : IVec S1x128 32 := broadcastInDim S1x128 ![1] bcast_S128_S1x128_1 main_v0
  let main_v10 : IVec S128x128 32 := broadcastInDim S128x128 ![0, 1] bcast_S128x1_S128x128_0_1 main_v8
  let main_v11 : IVec S128x128 32 := broadcastInDim S128x128 ![0, 1] bcast_S1x128_S128x128_0_1 main_v9
  let main_v12 : IVec S128x128 1 := cmpi .eq main_v10 main_v11
  let main_v13 : IVec S128x128 1 := ori main_v7 main_v12
  let main_v14 : FVec F S1x128x128 .f32 := broadcastInDim S1x128x128 ![1, 2] bcast_S128x128_S1x128x128_1_2 main_arg0
  let main_v15 : FVec F S128x128x1 .f32 := broadcastInDim S128x128x1 ![0, 1] bcast_S128x128_S128x128x1_0_1 main_arg0
  let main_v16 : FVec F S128x1x128 .f32 := broadcastInDim S128x1x128 ![0, 2] bcast_S128x128_S128x1x128_0_2 main_arg0
  let main_v17 : FVec F S128x128x128 .f32 := broadcastInDim S128x128x128 ![0, 1, 2] bcast_S128x128x1_S128x128x128_0_1_2 main_v15
  let main_v18 : FVec F S128x128x128 .f32 := broadcastInDim S128x128x128 ![0, 1, 2] bcast_S128x1x128_S128x128x128_0_1_2 main_v16
  fn_part1 (F := F) main_arg2 main_arg3 main_cst main_cst_0 main_cst_1 main_cst_2 main_v0 main_v1 main_v2 main_v3 main_v5 main_v13 main_v14 main_v17 main_v18
-- ==== Kernel.lean ====
abbrev S128x128 : Shape := ⟨2, ![128, 128]⟩
abbrev S128 : Shape := ⟨1, ![128]⟩
abbrev S32x4 : Shape := ⟨2, ![32, 4]⟩
abbrev S128x8001x3 : Shape := ⟨3, ![128, 8001, 3]⟩
abbrev S1x128 : Shape := ⟨2, ![1, 128]⟩
abbrev S128x1 : Shape := ⟨2, ![128, 1]⟩
abbrev S128x32 : Shape := ⟨2, ![128, 32]⟩
abbrev S8x128 : Shape := ⟨2, ![8, 128]⟩
abbrev S8x32 : Shape := ⟨2, ![8, 32]⟩
abbrev S1x8 : Shape := ⟨2, ![1, 8]⟩
abbrev S128x8 : Shape := ⟨2, ![128, 8]⟩
abbrev S128x2 : Shape := ⟨2, ![128, 2]⟩
abbrev S2x128 : Shape := ⟨2, ![2, 128]⟩
abbrev S32x128 : Shape := ⟨2, ![32, 128]⟩
abbrev S32 : Shape := ⟨1, ![32]⟩
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S128x128, .f32⟩
  | .hbm, ⟨1, _⟩ => ⟨S128, .f32⟩
  | .hbm, ⟨2, _⟩ => ⟨S32x4, .f32⟩
  | .hbm, ⟨3, _⟩ => ⟨S128x8001x3, .i32⟩
  | .hbm, ⟨4, _⟩ => ⟨S1x128, .f32⟩
  | .hbm, ⟨5, _⟩ => ⟨S128x1, .f32⟩
  | .hbm, ⟨6, _⟩ => ⟨S128x32, .f32⟩
  | .local _ .vmem, ⟨0, _⟩ => ⟨S128x128, .f32⟩
  | .local _ .vmem, ⟨1, _⟩ => ⟨S8x128, .f32⟩
  | .local _ .vmem, ⟨2, _⟩ => ⟨S8x128, .f32⟩
  | .local _ .vmem, ⟨3, _⟩ => ⟨S1x128, .f32⟩
  | .local _ .vmem, ⟨4, _⟩ => ⟨S128x1, .f32⟩
  | .local _ .vmem, ⟨5, _⟩ => ⟨S8x32, .f32⟩
  | .local _ .vmem, ⟨6, _⟩ => ⟨S8x32, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "hc0" => some (((Real.sqrt 1083047892481599) * (Real.sqrt 4503599627370496)⁻¹ : ℝ) : EReal)
  | "hc1" => some (((Real.sqrt 48648847445143) * (Real.sqrt 281474976710656)⁻¹ : ℝ) : EReal)
  | "hc5" => some ((-((Real.sqrt 21719890811535) * (Real.sqrt 281474976710656)⁻¹) : ℝ) : EReal)
  | "hc7" => some ((-((Real.sqrt 4332191596110975) * (Real.sqrt 18014398509481984)⁻¹) : ℝ) : EReal)
  | "hs3_twice" => some ((2 * ((Real.sqrt 270761969847327) * (Real.sqrt 1125899906842624)⁻¹) : ℝ) : EReal)
  | "hs4_half" => some (((1 / 2) * ((Real.sqrt 1083047840112423) * (Real.sqrt 4503599627370496)⁻¹) : ℝ) : EReal)
  | "hs6" => some (((Real.sqrt 21719890811535) * (Real.sqrt 281474976710656)⁻¹ : ℝ) : EReal)
  | "neg_eta_log2e" => some ((-(8 * (Real.log 2)⁻¹) : ℝ) : EReal)
  | "pi_over_rc" => some ((13176795 / 14680064 : ℝ) : EReal)
  | _ => none
-- ==== ReferenceIdeal.lean ====
abbrev S128x128 : Shape := ⟨2, ![128, 128]⟩
abbrev S128 : Shape := ⟨1, ![128]⟩
abbrev S32x4 : Shape := ⟨2, ![32, 4]⟩
abbrev S128x8001x3 : Shape := ⟨3, ![128, 8001, 3]⟩
abbrev S128x8001x1 : Shape := ⟨3, ![128, 8001, 1]⟩
abbrev S128x8001 : Shape := ⟨2, ![128, 8001]⟩
abbrev S_ : Shape := ⟨0, ![]⟩
abbrev S128x8001x2 : Shape := ⟨3, ![128, 8001, 2]⟩
abbrev S32x1 : Shape := ⟨2, ![32, 1]⟩
abbrev S32 : Shape := ⟨1, ![32]⟩
abbrev S32x1x1 : Shape := ⟨3, ![32, 1, 1]⟩
abbrev S1x128x8001 : Shape := ⟨3, ![1, 128, 8001]⟩
abbrev S32x128x8001 : Shape := ⟨3, ![32, 128, 8001]⟩
abbrev S32x128 : Shape := ⟨2, ![32, 128]⟩
abbrev S128x32 : Shape := ⟨2, ![128, 32]⟩

abbrev nBuf : Space → Nat
  | .hbm => 196
  | .vmem => 0
  | .smem => 0
  | _ => 0

abbrev hbmTy0_0 (i : Nat) : BufTy := match i % 128 with
  | 0 => ⟨S128x128, .f32⟩
  | 1 => ⟨S128, .f32⟩
  | 2 => ⟨S32x4, .f32⟩
  | 3 => ⟨S128x8001x3, .i32⟩
  | 4 => ⟨S128x8001x1, .i32⟩
  | 5 => ⟨S128x8001, .i32⟩
  | 6 => ⟨S128x8001x1, .i32⟩
  | 7 => ⟨S128x8001, .i32⟩
  | 8 => ⟨S128x8001x1, .i32⟩
  | 9 => ⟨S128x8001, .i32⟩
  | 10 => ⟨S_, .i32⟩
  | 11 => ⟨S128x8001, .i32⟩
  | 12 => ⟨S128x8001, .i1⟩
  | 13 => ⟨S_, .i32⟩
  | 14 => ⟨S128x8001, .i32⟩
  | 15 => ⟨S128x8001, .i32⟩
  | 16 => ⟨S128x8001, .i32⟩
  | 17 => ⟨S_, .i32⟩
  | 18 => ⟨S128x8001, .i32⟩
  | 19 => ⟨S128x8001, .i1⟩
  | 20 => ⟨S_, .i32⟩
  | 21 => ⟨S128x8001, .i32⟩
  | 22 => ⟨S128x8001, .i32⟩
  | 23 => ⟨S128x8001, .i32⟩
  | 24 => ⟨S128x8001x1, .i32⟩
  | 25 => ⟨S128x8001x1, .i32⟩
  | 26 => ⟨S128x8001x2, .i32⟩
  | 27 => ⟨S128x8001, .f32⟩
  | 28 => ⟨S_, .i32⟩
  | 29 => ⟨S128x8001, .i32⟩
  | 30 => ⟨S128x8001, .i1⟩
  | 31 => ⟨S_, .i32⟩
  | 32 => ⟨S128x8001, .i32⟩
  | 33 => ⟨S128x8001, .i32⟩
  | 34 => ⟨S128x8001, .i32⟩
  | 35 => ⟨S_, .i32⟩
  | 36 => ⟨S128x8001, .i32⟩
  | 37 => ⟨S128x8001, .i1⟩
  | 38 => ⟨S_, .i32⟩
  | 39 => ⟨S128x8001, .i32⟩
  | 40 => ⟨S128x8001, .i32⟩
  | 41 => ⟨S128x8001, .i32⟩
  | 42 => ⟨S128x8001x1, .i32⟩
  | 43 => ⟨S128x8001x1, .i32⟩
  | 44 => ⟨S128x8001x2, .i32⟩
  | 45 => ⟨S128x8001, .f32⟩
  | 46 => ⟨S_, .i32⟩
  | 47 => ⟨S128x8001, .i32⟩
  | 48 => ⟨S128x8001, .i1⟩
  | 49 => ⟨S_, .i32⟩
  | 50 => ⟨S128x8001, .i32⟩
  | 51 => ⟨S128x8001, .i32⟩
  | 52 => ⟨S128x8001, .i32⟩
  | 53 => ⟨S_, .i32⟩
  | 54 => ⟨S128x8001, .i32⟩
  | 55 => ⟨S128x8001, .i1⟩
  | 56 => ⟨S_, .i32⟩
  | 57 => ⟨S128x8001, .i32⟩
  | 58 => ⟨S128x8001, .i32⟩
  | 59 => ⟨S128x8001, .i32⟩
  | 60 => ⟨S128x8001x1, .i32⟩
  | 61 => ⟨S128x8001x1, .i32⟩
  | 62 => ⟨S128x8001x2, .i32⟩
  | 63 => ⟨S128x8001, .f32⟩
  | 64 => ⟨S128x8001, .f32⟩
  | 65 => ⟨S128x8001, .f32⟩
  | 66 => ⟨S128x8001, .f32⟩
  | 67 => ⟨S128x8001, .f32⟩
  | 68 => ⟨S128x8001, .f32⟩
  | 69 => ⟨S_, .f32⟩
  | 70 => ⟨S128x8001, .f32⟩
  | 71 => ⟨S128x8001, .f32⟩
  | 72 => ⟨S128x8001, .f32⟩
  | 73 => ⟨S_, .f32⟩
  | 74 => ⟨S_, .f32⟩
  | 75 => ⟨S_, .f32⟩
  | 76 => ⟨S128x8001, .f32⟩
  | 77 => ⟨S128x8001, .f32⟩
  | 78 => ⟨S_, .f32⟩
  | 79 => ⟨S128x8001, .f32⟩
  | 80 => ⟨S128x8001, .f32⟩
  | 81 => ⟨S128x8001, .f32⟩
  | 82 => ⟨S_, .f32⟩
  | 83 => ⟨S128x8001, .f32⟩
  | 84 => ⟨S128x8001, .f32⟩
  | 85 => ⟨S128x8001, .f32⟩
  | 86 => ⟨S_, .i32⟩
  | 87 => ⟨S128x8001, .i32⟩
  | 88 => ⟨S128x8001, .i1⟩
  | 89 => ⟨S_, .i32⟩
  | 90 => ⟨S128x8001, .i32⟩
  | 91 => ⟨S128x8001, .i32⟩
  | 92 => ⟨S128x8001, .i32⟩
  | 93 => ⟨S128x8001x1, .i32⟩
  | 94 => ⟨S128x8001, .f32⟩
  | 95 => ⟨S_, .i32⟩
  | 96 => ⟨S128x8001, .i32⟩
  | 97 => ⟨S128x8001, .i1⟩
  | 98 => ⟨S_, .i32⟩
  | 99 => ⟨S128x8001, .i32⟩
  | 100 => ⟨S128x8001, .i32⟩
  | 101 => ⟨S128x8001, .i32⟩
  | 102 => ⟨S128x8001x1, .i32⟩
  | 103 => ⟨S128x8001, .f32⟩
  | 104 => ⟨S32x1, .f32⟩
  | 105 => ⟨S32, .f32⟩
  | 106 => ⟨S32x1x1, .f32⟩
  | 107 => ⟨S32x1, .f32⟩
  | 108 => ⟨S32, .f32⟩
  | 109 => ⟨S32x1x1, .f32⟩
  | 110 => ⟨S32x1, .f32⟩
  | 111 => ⟨S32, .f32⟩
  | 112 => ⟨S32x1x1, .f32⟩
  | 113 => ⟨S32x1, .f32⟩
  | 114 => ⟨S32, .f32⟩
  | 115 => ⟨S32x1x1, .f32⟩
  | 116 => ⟨S1x128x8001, .f32⟩
  | 117 => ⟨S1x128x8001, .f32⟩
  | 118 => ⟨S1x128x8001, .f32⟩
  | 119 => ⟨S32x128x8001, .f32⟩
  | 120 => ⟨S32x128x8001, .f32⟩
  | 121 => ⟨S32x128x8001, .f32⟩
  | 122 => ⟨S32x128x8001, .f32⟩
  | 123 => ⟨S_, .f32⟩
  | 124 => ⟨S32x128x8001, .f32⟩
  | 125 => ⟨S32x128x8001, .f32⟩
  | 126 => ⟨S_, .f32⟩
  | 127 => ⟨S32x128x8001, .f32⟩
  | _ => ⟨S128x128, .f32⟩

abbrev hbmTy0_1 (i : Nat) : BufTy := match i % 128 with
  | 0 => ⟨S32x128x8001, .f32⟩
  | 1 => ⟨S32x128x8001, .f32⟩
  | 2 => ⟨S32x128x8001, .f32⟩
  | 3 => ⟨S32x1x1, .f32⟩
  | 4 => ⟨S1x128x8001, .f32⟩
  | 5 => ⟨S_, .f32⟩
  | 6 => ⟨S1x128x8001, .f32⟩
  | 7 => ⟨S1x128x8001, .f32⟩
  | 8 => ⟨S32x128x8001, .f32⟩
  | 9 => ⟨S32x128x8001, .f32⟩
  | 10 => ⟨S32x128x8001, .f32⟩
  | 11 => ⟨S32x128x8001, .f32⟩
  | 12 => ⟨S32x128x8001, .f32⟩
  | 13 => ⟨S32x128x8001, .f32⟩
  | 14 => ⟨S32x128x8001, .f32⟩
  | 15 => ⟨S_, .f32⟩
  | 16 => ⟨S128x8001, .f32⟩
  | 17 => ⟨S128x8001, .i1⟩
  | 18 => ⟨S_, .f32⟩
  | 19 => ⟨S128x8001, .f32⟩
  | 20 => ⟨S128x8001, .i1⟩
  | 21 => ⟨S128x8001, .i1⟩
  | 22 => ⟨S128x8001, .f32⟩
  | 23 => ⟨S1x128x8001, .f32⟩
  | 24 => ⟨S1x128x8001, .f32⟩
  | 25 => ⟨S1x128x8001, .f32⟩
  | 26 => ⟨S1x128x8001, .f32⟩
  | 27 => ⟨S_, .f32⟩
  | 28 => ⟨S1x128x8001, .f32⟩
  | 29 => ⟨S1x128x8001, .f32⟩
  | 30 => ⟨S32x128x8001, .f32⟩
  | 31 => ⟨S32x128x8001, .f32⟩
  | 32 => ⟨S32x128x8001, .f32⟩
  | 33 => ⟨S_, .f32⟩
  | 34 => ⟨S1x128x8001, .f32⟩
  | 35 => ⟨S1x128x8001, .f32⟩
  | 36 => ⟨S_, .f32⟩
  | 37 => ⟨S1x128x8001, .f32⟩
  | 38 => ⟨S1x128x8001, .f32⟩
  | 39 => ⟨S1x128x8001, .f32⟩
  | 40 => ⟨S_, .f32⟩
  | 41 => ⟨S1x128x8001, .f32⟩
  | 42 => ⟨S1x128x8001, .f32⟩
  | 43 => ⟨S_, .f32⟩
  | 44 => ⟨S1x128x8001, .f32⟩
  | 45 => ⟨S1x128x8001, .f32⟩
  | 46 => ⟨S32x128x8001, .f32⟩
  | 47 => ⟨S32x128x8001, .f32⟩
  | 48 => ⟨S_, .f32⟩
  | 49 => ⟨S1x128x8001, .f32⟩
  | 50 => ⟨S1x128x8001, .f32⟩
  | 51 => ⟨S_, .f32⟩
  | 52 => ⟨S1x128x8001, .f32⟩
  | 53 => ⟨S1x128x8001, .f32⟩
  | 54 => ⟨S1x128x8001, .f32⟩
  | 55 => ⟨S_, .f32⟩
  | 56 => ⟨S1x128x8001, .f32⟩
  | 57 => ⟨S1x128x8001, .f32⟩
  | 58 => ⟨S_, .f32⟩
  | 59 => ⟨S1x128x8001, .f32⟩
  | 60 => ⟨S1x128x8001, .f32⟩
  | 61 => ⟨S32x128x8001, .f32⟩
  | 62 => ⟨S32x128x8001, .f32⟩
  | 63 => ⟨S32x128x8001, .f32⟩
  | 64 => ⟨S32x128x8001, .f32⟩
  | 65 => ⟨S_, .f32⟩
  | 66 => ⟨S32x128, .f32⟩
  | 67 => ⟨S128x32, .f32⟩
  | _ => ⟨S128x128, .f32⟩

abbrev hbmTy (i : Nat) : BufTy := match i / 128 with
  | 0 => hbmTy0_0 i
  | 1 => hbmTy0_1 i
  | _ => ⟨S128x128, .f32⟩

abbrev bufTy : (tb : Table) → Fin (tcTables nBuf tb) → BufTy
  | .hbm, ⟨i, _⟩ => hbmTy i
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_c_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_cst_12 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_16 : Ref sig .tc := ⟨.hbm, 95, rfl⟩
abbrev main_v68 : Ref sig .tc := ⟨.hbm, 96, rfl⟩
abbrev main_v69 : Ref sig .tc := ⟨.hbm, 97, rfl⟩
abbrev main_c_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_18 : Ref sig .tc := ⟨.hbm, 123, rfl⟩
abbrev main_v94 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_20 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_21 : Ref sig .tc := ⟨.hbm, 143, rfl⟩
abbrev main_v111 : Ref sig .tc := ⟨.hbm, 144, rfl⟩
abbrev main_v112 : Ref sig .tc := ⟨.hbm, 145, rfl⟩
abbrev main_cst_22 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_23 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_24 : Ref sig .tc := ⟨.hbm, 161, rfl⟩
abbrev main_v126 : Ref sig .tc := ⟨.hbm, 162, rfl⟩
abbrev main_v127 : Ref sig .tc := ⟨.hbm, 163, rfl⟩
abbrev main_cst_25 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_26 : Ref sig .tc := ⟨.hbm, 168, rfl⟩
abbrev main_v131 : Ref sig .tc := ⟨.hbm, 169, rfl⟩
abbrev main_v132 : Ref sig .tc := ⟨.hbm, 170, rfl⟩
abbrev main_cst_27 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_28 : Ref sig .tc := ⟨.hbm, 176, rfl⟩
abbrev main_v137 : Ref sig .tc := ⟨.hbm, 177, rfl⟩
abbrev main_v138 : Ref sig .tc := ⟨.hbm, 178, rfl⟩
abbrev main_cst_29 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_30 : Ref sig .tc := ⟨.hbm, 183, rfl⟩
abbrev main_v142 : Ref sig .tc := ⟨.hbm, 184, rfl⟩
abbrev main_v143 : Ref sig .tc := ⟨.hbm, 185, rfl⟩
abbrev main_cst_31 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_32 : Ref sig .tc := ⟨.hbm, 193, rfl⟩
abbrev main_v150 : Ref sig .tc := ⟨.hbm, 194, rfl⟩
abbrev main_v151 : Ref sig .tc := ⟨.hbm, 195, rfl⟩

abbrev nD : Nat := 1
abbrev τ : Topo := Topo.v7x

variable {F : FTy → Type} [FloatOps F]
-- ==== Proof.KernelBody.lean ====
/-
  What one grid point of the kernel writes, written once for every centre of the block: the printed body is unrolled
  (8 centres, 16 row tiles, 32 output columns), and here each of its values is a function of the centre, the tile and
  the column. The run of the kernel (Proof/KernelRun.lean) shows that the printed body stores these values.
-/
module

public import proofs.«01_k».proof.Proof.Gen.KernelIdeal.Skeleton
public import Idealize.ShloMosaic.Lib.Pipeline.FrameBody

@[expose] public section

noncomputable section

namespace Cert.KernelIdeal.Body

open Cert.KernelIdeal Cert.KernelIdeal.Gen Idealize.ShloMosaic

variable {F : FTy → Type} [FloatOps F] [Named F]
variable (i : grid0.Coords) (x0 : Vec F S128x128 .f32) (x1 : Vec F S8x128 .f32) (x2 : Vec F S1x128 .f32)
  (x3 : Vec F S128x1 .f32)

theorem row_ok (c : Nat) : S8x128.Slices ![c % 8, 0] S1x128 :=
  ⟨rfl, fun a => by
    have := Nat.mod_lt c (show 0 < 8 by decide)
    match a with
    | ⟨0, _⟩ => show c % 8 + 1 ≤ 8; omega
    | ⟨1, _⟩ => show 0 + 128 ≤ 128; omega⟩

theorem col_ok (c : Nat) : S128x8.Slices ![0, c % 8] S128x1 :=
  ⟨rfl, fun a => by
    have := Nat.mod_lt c (show 0 < 8 by decide)
    match a with
    | ⟨0, _⟩ => show 0 + 128 ≤ 128; omega
    | ⟨1, _⟩ => show c % 8 + 1 ≤ 8; omega⟩

theorem tile_ok (g : Nat) : S128x128.Slices ![8 * (g % 16), 0] S8x128 :=
  ⟨rfl, fun a => by
    have := Nat.mod_lt g (show 0 < 16 by decide)
    match a with
    | ⟨0, _⟩ => show 8 * (g % 16) + 8 ≤ 128; omega
    | ⟨1, _⟩ => show 0 + 128 ≤ 128; omega⟩

abbrev r0_0 : Rect S128x128 := Rect.unit (s := S128x128) ![0, 0] S128x128.size inb_S128x128_S128x128_0_0
abbrev r0_1 : Rect S1x128 := Rect.unit (s := S1x128) ![0, 0] S1x128.size inb_S1x128_S1x128_0_0
abbrev r0_2 : Rect S128x1 := Rect.unit (s := S128x1) ![0, 0] S128x1.size inb_S128x1_S128x1_0_0
abbrev r0_3 : Rect S8x128 := Rect.unit (s := S8x128) ![0, 0] S8x128.size inb_S8x128_S8x128_0_0
abbrev r0_4 : Rect S8x32 := Rect.unit (s := S8x32) ![0, 0] S8x32.size inb_S8x32_S8x32_0_0

/-- The squared distances, times 0.475. -/
def hd2 : FVec F S128x128 .f32 := k0_pay3 (View.ld x0 r0_0)
/-- Off the diagonal. -/
def offdiag : IVec S128x128 1 := k0_pay5
/-- The cutoff weight along the block's rows, -/
def urow8 : FVec F S8x128 .f32 := k0_pay6 i (View.ld x2 r0_1) (View.ld x1 r0_3)
/-- the inverse distances along the rows, -/
def inv8 : FVec F S8x128 .f32 := k0_pay7 (View.ld x1 r0_3)
/-- and along the columns, picked out by a one-hot product; -/
def icol8 : FVec F S128x8 .f32 := k0_pay12 (View.ld x0 r0_0) k0_pay8 (k0_pay9 i)
/-- the cutoff weight along the columns, -/
def ucol8 : FVec F S128x8 .f32 := k0_pay13 (View.ld x0 r0_0) (k0_pay4 (View.ld x3 r0_2)) k0_pay8 (k0_pay9 i)
/-- half the distances, -/
def hcol8 : FVec F S128x8 .f32 := k0_pay14 (View.ld x0 r0_0) k0_pay8 (k0_pay9 i)
/-- 0.475 times the distances, -/
def hcol95 : FVec F S128x8 .f32 := k0_pay15 (View.ld x0 r0_0) k0_pay8 (k0_pay9 i)
/-- 0.475 times the inverse distances. -/
def hicol95 : FVec F S128x8 .f32 := k0_pay16 (View.ld x0 r0_0) k0_pay8 (k0_pay9 i)
/-- A column of halves. -/
def halves : FVec F S128x1 .f32 := k0_pay17
/-- A row of ones. -/
def ones : FVec F S1x128 .f32 := k0_pay18

/-- Row `c` of a block of eight rows. -/
def row (c : Nat) (v : FVec F S8x128 .f32) : FVec F S1x128 .f32 := extractStridedSlice S1x128 ![c % 8, 0] v (row_ok c)
/-- Column `c` of eight columns. -/
def col (c : Nat) (v : FVec F S128x8 .f32) : FVec F S128x1 .f32 := extractStridedSlice S128x1 ![0, c % 8] v (col_ok c)
/-- Rows `8 g` to `8 g + 7`. -/
def tile (g : Nat) (v : FVec F S128x128 .f32) : FVec F S8x128 .f32 :=
  extractStridedSlice S8x128 ![8 * (g % 16), 0] v (tile_ok g)

/-- The mean of the two distances from centre `c`. -/
def mean (c : Nat) : FVec F S128x128 .f32 :=
  matmul dot_S128x2_S2x128_S128x128_1_0_0_1_n_n none
    (concatenate S128x2 1 [⟨S128x1, col c (hcol8 i x0)⟩, ⟨S128x1, halves⟩] concatenates_S128x1_S128x1_S128x2_d1)
    (concatenate S2x128 0 [⟨S1x128, ones⟩, ⟨S1x128, row c (View.ld x1 r0_3)⟩] concatenates_S1x128_S1x128_S2x128_d0)
    (constant S128x128 .f32 0x00000000#32)

/-- The weight of the pair at centre `c`, zero on the diagonal. -/
def weight (c : Nat) : FVec F S128x128 .f32 :=
  select (offdiag)
    (matmul dot_S128x1_S1x128_S128x128_1_0_0_1_n_n none (col c (ucol8 i x0 x3)) (row c (urow8 i x1 x2))
      (constant S128x128 .f32 0x00000000#32))
    (broadcast S128x128 (Scalar.ofBits .f32 0x00000000#32))

/-- The clipped cosine at centre `c`, times 0.95. -/
def cosine (c : Nat) : FVec F S128x128 .f32 :=
  minimumf (broadcast S128x128 (Scalar.ofBits .f32 0x3F733333#32))
    (maximumf (broadcast S128x128 (Scalar.ofBits .f32 0xBF733333#32))
      (subf
        (matmul dot_S128x2_S2x128_S128x128_1_0_0_1_n_n none
          (concatenate S128x2 1 [⟨S128x1, col c (hcol95 i x0)⟩, ⟨S128x1, col c (hicol95 i x0)⟩] concatenates_S128x1_S128x1_S128x2_d1)
          (concatenate S2x128 0 [⟨S1x128, row c (inv8 x1)⟩, ⟨S1x128, row c (View.ld x1 r0_3)⟩] concatenates_S1x128_S1x128_S2x128_d0)
          (constant S128x128 .f32 0x00000000#32))
        (mulf (hd2 x0)
          (matmul dot_S128x1_S1x128_S128x128_1_0_0_1_n_n none (col c (icol8 i x0)) (row c (inv8 x1))
            (constant S128x128 .f32 0x00000000#32)))))

/-- The sine belonging to `cosine`. -/
def sine (c : Nat) : FVec F S128x128 .f32 :=
  sqrt (subf (broadcast S128x128 (Scalar.ofBits .f32 0x3F800000#32)) (mulf (cosine i x0 x1 c) (cosine i x0 x1 c)))

/-- Half the cosine of angular shift `s`. -/
def hcos : Nat → F .f32
  | 0 => Named.named κ "hc0" 0x3EFB14BE#32
  | 1 => Named.named κ "hc1" 0x3ED4DB31#32
  | 2 => Scalar.ofBits .f32 0x3E8E39DA#32
  | 3 => Scalar.ofBits .f32 0x3DC7C5C4#32
  | 4 => Scalar.ofBits .f32 0xBDC7C5CA#32
  | 5 => Named.named κ "hc5" 0xBE8E39D9#32
  | 6 => Scalar.ofBits .f32 0xBED4DB32#32
  | _ => Named.named κ "hc7" 0xBEFB14BF#32

/-- Half the sine of angular shift `s`, as a block. -/
def hsin : Nat → FVec F S8x128 .f32
  | 0 => broadcast S8x128 (Scalar.ofBits .f32 0x3DC7C5C2#32)
  | 1 => broadcast S8x128 (Scalar.ofBits .f32 0x3E8E39DA#32)
  | 2 => broadcast S8x128 (Named.named κ "hc1" 0x3ED4DB31#32)
  | 3 => mulf (broadcast S8x128 (Scalar.ofBits .f32 0x3F000000#32)) (broadcast S8x128 (Named.named κ "hs3_twice" 0x3F7B14BE#32))
  | 4 => mulf (broadcast S8x128 (Scalar.ofBits .f32 0x40000000#32)) (broadcast S8x128 (Named.named κ "hs4_half" 0x3E7B14BE#32))
  | 5 => broadcast S8x128 (Scalar.ofBits .f32 0x3ED4DB32#32)
  | 6 => broadcast S8x128 (Named.named κ "hs6" 0x3E8E39D9#32)
  | _ => broadcast S8x128 (Scalar.ofBits .f32 0x3DC7C5C1#32)

/-- Radial shift `a`. -/
def shift : Nat → F .f32
  | 0 => Scalar.ofBits .f32 0x3F666666#32
  | 1 => Scalar.ofBits .f32 0x3FC66666#32
  | 2 => Scalar.ofBits .f32 0x400CCCCD#32
  | _ => Scalar.ofBits .f32 0x40366666#32

/-- A block squared. -/
def sq (v : FVec F S8x128 .f32) : FVec F S8x128 .f32 := mulf v v

/-- The angular factor on tile `g` at shift `s`: a 32nd power by five squarings. -/
def angular (c g s : Nat) : FVec F S8x128 .f32 :=
  sq (sq (sq (sq (sq (addf
    (addf (broadcast S8x128 (Scalar.ofBits .f32 0x3F000000#32))
      (mulf (tile g (cosine i x0 x1 c)) (broadcast S8x128 (hcos s))))
    (mulf (tile g (sine i x0 x1 c)) (hsin s)))))))

/-- The radial factor on tile `g` at shift `a`, the weight multiplied in. -/
def radial (c g a : Nat) : FVec F S8x128 .f32 :=
  mulf (tile g (weight i x0 x1 x2 x3 c))
    (exp2 (mulf (broadcast S8x128 (Named.named κ "neg_eta_log2e" 0xC138AA3B#32))
      (mulf (subf (tile g (mean i x0 x1 c)) (broadcast S8x128 (shift a)))
        (subf (tile g (mean i x0 x1 c)) (broadcast S8x128 (shift a))))))

/-- The accumulator of column `p` after tile `g`. -/
def acc (c p : Nat) (g : Nat) : FVec F S8x128 .f32 :=
  Nat.rec (mulf (angular i x0 x1 c 0 (p % 8)) (radial i x0 x1 x2 x3 c 0 (p / 8)))
    (fun g v => addf v (mulf (angular i x0 x1 c (g + 1) (p % 8)) (radial i x0 x1 x2 x3 c (g + 1) (p / 8)))) g

/-- The sums over the rows, column by column. -/
def partials (c : Nat) : FVec F S32x128 .f32 :=
  concatenate S32x128 0
    (List.ofFn fun p : Fin 32 => ⟨S1x128, shapeCast S1x128
      (multiReduction .add [0] S128 (acc i x0 x1 x2 x3 c p.val 15) 0x00000000#32 reduces_S8x128_S128 (.inl rfl) rfl)
      shapeCasts_S128_S1x128⟩)
    concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0

/-- The output row of centre `c`. -/
def outRow (c : Nat) : FVec F S1x32 .f32 :=
  shapeCast S1x32 (multiReduction .add [1] S32 (partials i x0 x1 x2 x3 c) 0x00000000#32 reduces_S32x128_S32 (.inl rfl) rfl)
    shapeCasts_S32_S1x32

/-- The block of eight output rows. -/
def out : FVec F S8x32 .f32 :=
  concatenate S8x32 0 (List.ofFn fun c : Fin 8 => ⟨S1x32, outRow i x0 x1 x2 x3 c.val⟩)
    concatenates_S1x32_S1x32_S1x32_S1x32_S1x32_S1x32_S1x32_S1x32_S8x32_d0

end Cert.KernelIdeal.Body

end
-- ==== Proof.KernelRun.lean ====
/-
  The run of the idealized kernel: the pipeline's proof data with the body's stored block written as `Body.out`, the
  body obligation, the launch, and the frame.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelBody
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 1).trans (((dats 0 c).arrAt_in 1 rfl _).trans ((hA c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- The output window's buffer after the body: its one store. -/
def out0_4 (i : grid0.Coords) (x0 : Vec F S128x128 .f32) (x1 : Vec F S8x128 .f32) (x2 : Vec F S1x128 .f32) (x3 : Vec F S128x1 .f32) : Vec F S8x32 .f32 := View.canon [⟨r0_4, out i x0 x1 x2 x3⟩]

/-- Its stores tile the buffer (checked by evaluation), so they cover it. -/
theorem cover0_4 (p0 : Vec F S8x32 .f32) (y : S8x32.Idx) :
    ∃ pc ∈ ([⟨r0_4, p0⟩] : List (View.Piece (Elt F) S8x32 .f32)), y ∈ pc.1.set :=
  View.cover_of_tiled [⟨r0_4, p0⟩] S8x32.size (by rfl) y

/-! ## The body's triple -/

set_option maxHeartbeats 184670350 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S128x128 .f32) (harg1 : arg1.IsWhole) (arg2 : Memref sig .tc .vmem S8x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S8x32 .f32) (harg5 : arg5.IsWhole)
    (x0 : Vec F S128x128 .f32) (x1 : Vec F S8x128 .f32) (x2 : Vec F S1x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 i x0 x1 x2 x3)) -∗ K ⟨⟩))
      ⊢ wp frame (wpE (defs₀ (F := F)) Variants.none c none) E (cc0__aev_kernel i arg1 harg1 arg2 harg2 arg3 harg3 arg4 harg4 arg5 harg5) K := by
  simp only [cc0__aev_kernel_eq_skeleton]; unfold cc0__aev_kernel_skel
  simp only [k0_part409_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part410_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part411_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part412_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part413_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part414_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part415_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (grid0.coords t) (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Consts.lean ====
/-
  The float constants that the programs spell, as the rationals that their words denote over the extended reals.
-/
module

public import Idealize.ShloMosaic.PureOps.Ideal

@[expose] public section

noncomputable section

namespace Cert.Consts

open Idealize.ShloMosaic

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem zeta : Ideal.ofBits .f32 0x42000000#32 = ((32 : ℝ) : EReal) := by
  simp [Ideal.ofBits, Ideal.ieee, -EReal.coe_mul]; norm_num

theorem eta : Ideal.ofBits .f32 0x41000000#32 = ((8 : ℝ) : EReal) := by
  simp [Ideal.ofBits, Ideal.ieee, -EReal.coe_mul]; norm_num

theorem cutoff : Ideal.ofBits .f32 0x40600000#32 = ((7 / 2 : ℝ) : EReal) := by
  simp [Ideal.ofBits, Ideal.ieee, -EReal.coe_mul]; norm_num

theorem pi : Ideal.ofBits .f32 0x40490FDB#32 = ((13176795 / 4194304 : ℝ) : EReal) := by
  simp [Ideal.ofBits, Ideal.ieee, -EReal.coe_mul]; norm_num

theorem scale : Ideal.ofBits .f32 0x3F733333#32 = ((15938355 / 16777216 : ℝ) : EReal) := by
  simp [Ideal.ofBits, Ideal.ieee, -EReal.coe_mul]; norm_num

theorem neg_scale : Ideal.ofBits .f32 0xBF733333#32 = ((-(15938355 / 16777216) : ℝ) : EReal) := by
  simp [Ideal.ofBits, Ideal.ieee, -EReal.coe_mul]; norm_num

theorem half_scale : Ideal.ofBits .f32 0x3EF33333#32 = ((15938355 / 33554432 : ℝ) : EReal) := by
  simp [Ideal.ofBits, Ideal.ieee, -EReal.coe_mul]; norm_num

theorem least_product : Ideal.ofBits .f32 0x2EDBE6FF#32 = ((14411519 / 144115188075855872 : ℝ) : EReal) := by
  simp [Ideal.ofBits, Ideal.ieee, -EReal.coe_mul]; norm_num

theorem least_distance : Ideal.ofBits .f32 0x3727C5AC#32 = ((2748779 / 274877906944 : ℝ) : EReal) := by
  simp [Ideal.ofBits, Ideal.ieee, -EReal.coe_mul]; norm_num

theorem shift0 : Ideal.ofBits .f32 0x3F666666#32 = ((7549747 / 8388608 : ℝ) : EReal) := by
  simp [Ideal.ofBits, Ideal.ieee, -EReal.coe_mul]; norm_num

theorem shift1 : Ideal.ofBits .f32 0x3FC66666#32 = ((6501171 / 4194304 : ℝ) : EReal) := by
  simp [Ideal.ofBits, Ideal.ieee, -EReal.coe_mul]; norm_num

theorem shift2 : Ideal.ofBits .f32 0x400CCCCD#32 = ((9227469 / 4194304 : ℝ) : EReal) := by
  simp [Ideal.ofBits, Ideal.ieee, -EReal.coe_mul]; norm_num

theorem shift3 : Ideal.ofBits .f32 0x40366666#32 = ((5976883 / 2097152 : ℝ) : EReal) := by
  simp [Ideal.ofBits, Ideal.ieee, -EReal.coe_mul]; norm_num

theorem hs0 : Ideal.ofBits .f32 0x3DC7C5C2#32 = ((6546145 / 67108864 : ℝ) : EReal) := by
  simp [Ideal.ofBits, Ideal.ieee, -EReal.coe_mul]; norm_num

theorem hs1 : Ideal.ofBits .f32 0x3E8E39DA#32 = ((4660461 / 16777216 : ℝ) : EReal) := by
  simp [Ideal.ofBits, Ideal.ieee, -EReal.coe_mul]; norm_num

theorem hs5 : Ideal.ofBits .f32 0x3ED4DB32#32 = ((6974873 / 16777216 : ℝ) : EReal) := by
  simp [Ideal.ofBits, Ideal.ieee, -EReal.coe_mul]; norm_num

theorem hs7 : Ideal.ofBits .f32 0x3DC7C5C1#32 = ((13092289 / 134217728 : ℝ) : EReal) := by
  simp [Ideal.ofBits, Ideal.ieee, -EReal.coe_mul]; norm_num

theorem hs2 : Ideal.ofBits .f32 0x3ED4DB31#32 = ((13949745 / 33554432 : ℝ) : EReal) := by
  simp [Ideal.ofBits, Ideal.ieee, -EReal.coe_mul]; norm_num

theorem hs3 : Ideal.ofBits .f32 0x3EFB14BE#32 = ((8227423 / 16777216 : ℝ) : EReal) := by
  simp [Ideal.ofBits, Ideal.ieee, -EReal.coe_mul]; norm_num

theorem hs6 : Ideal.ofBits .f32 0x3E8E39D9#32 = ((9320921 / 33554432 : ℝ) : EReal) := by
  simp [Ideal.ofBits, Ideal.ieee, -EReal.coe_mul]; norm_num

theorem hc3 : Ideal.ofBits .f32 0x3DC7C5C4#32 = ((3273073 / 33554432 : ℝ) : EReal) := by
  simp [Ideal.ofBits, Ideal.ieee, -EReal.coe_mul]; norm_num

theorem hc4 : Ideal.ofBits .f32 0xBDC7C5CA#32 = ((-(6546149 / 67108864) : ℝ) : EReal) := by
  simp [Ideal.ofBits, Ideal.ieee, -EReal.coe_mul]; norm_num

theorem hc5 : Ideal.ofBits .f32 0xBE8E39D9#32 = ((-(9320921 / 33554432) : ℝ) : EReal) := by
  simp [Ideal.ofBits, Ideal.ieee, -EReal.coe_mul]; norm_num

theorem hc6 : Ideal.ofBits .f32 0xBED4DB32#32 = ((-(6974873 / 16777216) : ℝ) : EReal) := by
  simp [Ideal.ofBits, Ideal.ieee, -EReal.coe_mul]; norm_num

theorem hc7 : Ideal.ofBits .f32 0xBEFB14BF#32 = ((-(16454847 / 33554432) : ℝ) : EReal) := by
  simp [Ideal.ofBits, Ideal.ieee, -EReal.coe_mul]; norm_num

theorem top : Ideal.ofBits .f32 0x7F800000#32 = ⊤ := by
  simp [Ideal.ofBits, Ideal.ieee]

end Cert.Consts

end
-- ==== Proof.Trig.lean ====
/-
  The real-number facts behind one pair of neighbours: the law of cosines in the kernel's spelling, the range of the
  cosine under the triangle inequality, and the angle-difference formula that turns the reference's
  `cos (arccos c - θ)` into products.
-/
module

public import Idealize.ShloMosaic.PureOps.Ideal

@[expose] public section

namespace Cert.Trig

/-- The scale of the cosine: the float nearest 0.95. -/
noncomputable abbrev scale : ℝ := 15938355 / 16777216

/-- The scaled cosine of the angle between sides `a` and `b`, opposite to `e`. -/
noncomputable def scaledCos (a b e : ℝ) : ℝ := scale * ((a * a + b * b - e * e) / (2 * a * b))

theorem kernel_form {a b e : ℝ} (ha : 0 < a) (hb : 0 < b) :
    scale / 2 * a * (1 / b) + scale / 2 * (1 / a) * b - scale / 2 * e * e * (1 / a * (1 / b)) = scaledCos a b e := by
  unfold scaledCos
  field_simp

theorem scaledCos_comm (a b e : ℝ) : scaledCos a b e = scaledCos b a e := by
  unfold scaledCos
  rw [show a * a + b * b - e * e = b * b + a * a - e * e by ring, show 2 * a * b = 2 * b * a by ring]

/-- The triangle inequality keeps the cosine between -1 and 1. -/
theorem scaledCos_mem {a b e : ℝ} (ha : 0 < a) (hb : 0 < b) (h1 : e ≤ a + b) (h2 : a ≤ b + e) (h3 : b ≤ a + e) :
    -scale ≤ scaledCos a b e ∧ scaledCos a b e ≤ scale := by
  have hab : 0 < 2 * a * b := by positivity
  have he : 0 ≤ e := by linarith
  have l : -1 ≤ (a * a + b * b - e * e) / (2 * a * b) := by
    rw [le_div_iff₀ hab]; nlinarith
  have u : (a * a + b * b - e * e) / (2 * a * b) ≤ 1 := by
    rw [div_le_iff₀ hab]; nlinarith
  unfold scaledCos
  constructor <;> unfold scale <;> linarith

/-- The angular factor: the angle difference opened, half the cosine and half the sine of the shift given. -/
theorem angular_form {c θ hc hs : ℝ} (h1 : -1 ≤ c) (h2 : c ≤ 1) (hcθ : Real.cos θ = 2 * hc) (hsθ : Real.sin θ = 2 * hs) :
    (1 + Real.cos (Real.arccos c - θ)) / 2 = 1 / 2 + c * hc + Real.sqrt (1 - c * c) * hs := by
  rw [Real.cos_sub, Real.cos_arccos h1 h2, Real.sin_arccos, hcθ, hsθ, ← sq]
  ring

theorem pow_form (x : ℝ) : Real.rpow x 32 = x ^ 32 := by
  have h := Real.rpow_natCast x 32
  rw [← h]; norm_num

theorem squarings (x : ℝ) :
    (fun v : ℝ => v * v) ((fun v : ℝ => v * v) ((fun v : ℝ => v * v) ((fun v : ℝ => v * v) ((fun v : ℝ => v * v) x)))) = x ^ 32 := by
  ring

/-- The radial factor: a power of two with the base-two logarithm's constant is the exponential. -/
theorem radial_form (t : ℝ) : Real.rpow 2 (-(8 * (Real.log 2)⁻¹) * t) = Real.exp (-8 * t) := by
  show (2 : ℝ) ^ (-(8 * (Real.log 2)⁻¹) * t) = _
  rw [Real.rpow_def_of_pos (by norm_num)]
  congr 1
  have : Real.log 2 ≠ 0 := (Real.log_pos (by norm_num)).ne'
  field_simp

/-- A sine and the sign of the cosine fix the cosine. -/
theorem cos_of_sin {θ s r : ℝ} (hs : 1 / 2 * Real.sin θ = s) (hr : r * r = 1 / 4 - s * s) (hp : 0 < r * (1 / 2 * Real.cos θ)) :
    Real.cos θ = 2 * r := by
  have h := Real.sin_sq_add_cos_sq θ
  have hk : (Real.cos θ - 2 * r) * (Real.cos θ + 2 * r) = 0 := by
    subst hs; linear_combination h - 4 * hr
  rcases mul_eq_zero.mp hk with h0 | h0
  · linarith
  · exfalso; nlinarith [mul_self_nonneg r]

/-- A cosine and the sign of the sine fix the sine. -/
theorem sin_of_cos {θ c r : ℝ} (hc : 1 / 2 * Real.cos θ = c) (hr : r * r = 1 / 4 - c * c) (hr0 : 0 < r) (hp : 0 < 1 / 2 * Real.sin θ) :
    Real.sin θ = 2 * r := by
  have h := Real.sin_sq_add_cos_sq θ
  have hk : (Real.sin θ - 2 * r) * (Real.sin θ + 2 * r) = 0 := by
    subst hc; linear_combination h - 4 * hr
  rcases mul_eq_zero.mp hk with h0 | h0
  · linarith
  · exfalso; nlinarith

end Cert.Trig
-- ==== Proof.Table.lean ====
/-
  The parameters of the 32 output columns as real numbers: the four radial shifts, and half the cosine and half the
  sine of the eight angular shifts. Of each shift one of the two is the float that is written, and the other is the
  root that makes the sum of their squares a quarter.
-/
module

public import proofs.«01_k».proof.Proof.Trig

@[expose] public section

noncomputable section

namespace Cert.Table

/-- Half the cosine of an angular shift. -/
def halfCos : ℕ → ℝ
  | 0 => Real.sqrt 1083047892481599 * (Real.sqrt 4503599627370496)⁻¹
  | 1 => Real.sqrt 48648847445143 * (Real.sqrt 281474976710656)⁻¹
  | 2 => 4660461 / 16777216
  | 3 => 3273073 / 33554432
  | 4 => -(6546149 / 67108864)
  | 5 => -(Real.sqrt 21719890811535 * (Real.sqrt 281474976710656)⁻¹)
  | 6 => -(6974873 / 16777216)
  | _ => -(Real.sqrt 4332191596110975 * (Real.sqrt 18014398509481984)⁻¹)

/-- Half the sine of an angular shift. -/
def halfSin : ℕ → ℝ
  | 0 => 6546145 / 67108864
  | 1 => 4660461 / 16777216
  | 2 => Real.sqrt 48648847445143 * (Real.sqrt 281474976710656)⁻¹
  | 3 => Real.sqrt 270761969847327 * (Real.sqrt 1125899906842624)⁻¹
  | 4 => Real.sqrt 1083047840112423 * (Real.sqrt 4503599627370496)⁻¹
  | 5 => 6974873 / 16777216
  | 6 => Real.sqrt 21719890811535 * (Real.sqrt 281474976710656)⁻¹
  | _ => 13092289 / 134217728

/-- A radial shift. -/
def shift : ℕ → ℝ
  | 0 => 7549747 / 8388608
  | 1 => 6501171 / 4194304
  | 2 => 9227469 / 4194304
  | _ => 5976883 / 2097152

theorem root_sq {a b : ℝ} (ha : 0 ≤ a) (hb : 0 ≤ b) :
    (Real.sqrt a * (Real.sqrt b)⁻¹) * (Real.sqrt a * (Real.sqrt b)⁻¹) = a / b := by
  rw [mul_mul_mul_comm, Real.mul_self_sqrt ha, ← mul_inv, Real.mul_self_sqrt hb, div_eq_mul_inv]

theorem root_pos {a b : ℝ} (ha : 0 < a) (hb : 0 < b) : 0 < Real.sqrt a * (Real.sqrt b)⁻¹ :=
  mul_pos (Real.sqrt_pos.mpr ha) (inv_pos.mpr (Real.sqrt_pos.mpr hb))

/-- The cosine and the sine of each shift are on the circle. -/
theorem circle (s : Fin 8) : halfCos s * halfCos s + halfSin s * halfSin s = 1 / 4 := by
  fin_cases s <;> simp only [halfCos, halfSin, neg_mul_neg] <;>
    rw [root_sq (by norm_num) (by norm_num)] <;> norm_num

end Cert.Table

end
-- ==== Proof.Kern.lean ====
/-
  What one grid point of the idealized kernel writes, read as numbers: every output entry is a sum over all ordered
  pairs of atoms.
-/
module

public import proofs.«01_k».proof.Proof.KernelBody
public import proofs.«01_k».proof.Proof.Consts
public import proofs.«01_k».proof.Proof.Table
public import Idealize.ShloMosaic.Lib.Pointwise
public import Idealize.ShloMosaic.Lib.IdealHost
public import Idealize.ShloMosaic.Lib.WordCmp
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.WordCmp

variable (i : grid0.Coords) (x0 : Vec Ideal S128x128 .f32) (x1 : Vec Ideal S8x128 .f32) (x2 : Vec Ideal S1x128 .f32)
  (x3 : Vec Ideal S128x1 .f32)

theorem name_pi : Named.named (F := Ideal) κ "pi_over_rc" (φ := .f32) 0x3F65C8FA#32 = ((13176795 / 14680064 : ℝ) : EReal) :=
  IdealRules.named_const.ideal_named_scalar _ _ _ _ rfl

theorem name_eta : Named.named (F := Ideal) κ "neg_eta_log2e" (φ := .f32) 0xC138AA3B#32 = ((-(8 * (Real.log 2)⁻¹) : ℝ) : EReal) :=
  IdealRules.named_const.ideal_named_scalar _ _ _ _ rfl

/-- The table of half cosines. -/
theorem hcos_eq (s : Fin 8) : hcos (F := Ideal) s = ((Table.halfCos s : ℝ) : EReal) := by
  match s with
  | ⟨0, _⟩ => exact IdealRules.named_const.ideal_named_scalar _ _ _ _ rfl
  | ⟨1, _⟩ => exact IdealRules.named_const.ideal_named_scalar _ _ _ _ rfl
  | ⟨2, _⟩ => exact Consts.hs1
  | ⟨3, _⟩ => exact Consts.hc3
  | ⟨4, _⟩ => exact Consts.hc4
  | ⟨5, _⟩ => exact IdealRules.named_const.ideal_named_scalar _ _ _ _ rfl
  | ⟨6, _⟩ => exact Consts.hc6
  | ⟨7, _⟩ => exact IdealRules.named_const.ideal_named_scalar _ _ _ _ rfl

theorem name_hs3 : Named.named (F := Ideal) κ "hs3_twice" (φ := .f32) 0x3F7B14BE#32
    = ((2 * (Real.sqrt 270761969847327 * (Real.sqrt 1125899906842624)⁻¹) : ℝ) : EReal) :=
  IdealRules.named_const.ideal_named_scalar _ _ _ _ rfl

theorem name_hs4 : Named.named (F := Ideal) κ "hs4_half" (φ := .f32) 0x3E7B14BE#32
    = ((1 / 2 * (Real.sqrt 1083047840112423 * (Real.sqrt 4503599627370496)⁻¹) : ℝ) : EReal) :=
  IdealRules.named_const.ideal_named_scalar _ _ _ _ rfl

/-- The table of half sines. -/
theorem hsin_eq (s : Fin 8) (j : S8x128.Idx) : hsin (F := Ideal) s j = ((Table.halfSin s : ℝ) : EReal) := by
  match s with
  | ⟨0, _⟩ => exact Consts.hs0
  | ⟨1, _⟩ => exact Consts.hs1
  | ⟨2, _⟩ => exact IdealRules.named_const.ideal_named_scalar _ _ _ _ rfl
  | ⟨3, _⟩ =>
    show Ideal.ofBits .f32 0x3F000000#32 * Named.named (F := Ideal) κ "hs3_twice" (φ := .f32) 0x3F7B14BE#32 = _
    rw [Consts.half, name_hs3, ← EReal.coe_mul]
    congr 1
    show _ = Real.sqrt 270761969847327 * (Real.sqrt 1125899906842624)⁻¹
    ring
  | ⟨4, _⟩ =>
    show Ideal.ofBits .f32 0x40000000#32 * Named.named (F := Ideal) κ "hs4_half" (φ := .f32) 0x3E7B14BE#32 = _
    rw [Consts.two, name_hs4, ← EReal.coe_mul]
    congr 1
    show _ = Real.sqrt 1083047840112423 * (Real.sqrt 4503599627370496)⁻¹
    ring
  | ⟨5, _⟩ => exact Consts.hs5
  | ⟨6, _⟩ => exact IdealRules.named_const.ideal_named_scalar _ _ _ _ rfl
  | ⟨7, _⟩ => exact Consts.hs7

/-- The table of radial shifts. -/
theorem shift_eq (a : Fin 4) : shift (F := Ideal) a = ((Table.shift a : ℝ) : EReal) := by
  match a with
  | ⟨0, _⟩ => exact Consts.shift0
  | ⟨1, _⟩ => exact Consts.shift1
  | ⟨2, _⟩ => exact Consts.shift2
  | ⟨3, _⟩ => exact Consts.shift3

/-! ### The values that all pairs share -/

theorem point_lt : (i 0).val < 16 := (i 0).isLt

/-- The atom that centre `c` of the block is. -/
def atom (c : Fin 8) : Fin 128 := ⟨8 * (i 0).val + c.val, by have := point_lt i; omega⟩

/-- Its word, as the kernel adds it up. -/
theorem atom_word (c : Fin 8) :
    IntOp.addi (Scalar.muli (BitVec.ofNat 32 (i 0).val) 8#32) (BitVec.ofNat 32 c.val) = BitVec.ofNat 32 (atom i c).val := by
  have := point_lt i
  show BitVec.ofNat 32 (i 0).val * BitVec.ofNat 32 8 + BitVec.ofNat 32 c.val = _
  rw [← BitVec.ofNat_mul, ← BitVec.ofNat_add]
  congr 1
  show (i 0).val * 8 + c.val = 8 * (i 0).val + c.val
  omega

theorem atom_word' (c : Fin 8) :
    IntOp.addi (BitVec.ofNat 32 c.val) (Scalar.muli (BitVec.ofNat 32 (i 0).val) 8#32) = BitVec.ofNat 32 (atom i c).val := by
  rw [← atom_word]
  exact BitVec.add_comm _ _

/-- One entry of the one-hot matrix. -/
theorem onehot (j n : Fin 128) :
    FloatOps.sitofp (F := Ideal) .f32 (BitVec.setWidth 32 (IntOp.cmpi .eq (BitVec.ofNat 32 j.val) (BitVec.ofNat 32 n.val)))
      = if j = n then 1 else 0 := by
  by_cases h : j = n
  · subst h
    rw [if_pos rfl, (cmpi_eq_ofNat_eq_one_iff (by omega) (by omega)).mpr rfl]
    show (((BitVec.setWidth 32 1#1).toInt : ℝ) : EReal) = 1
    rw [show (BitVec.setWidth 32 1#1).toInt = 1 by decide]
    simp
  · rw [if_neg h, (cmpi_eq_ofNat_eq_zero_iff (by omega) (by omega)).mpr (fun e => h (Fin.ext e))]
    show (((BitVec.setWidth 32 0#1).toInt : ℝ) : EReal) = 0
    rw [show (BitVec.setWidth 32 0#1).toInt = 0 by decide]
    simp

/-- A product with the one-hot matrix picks a column out. -/
theorem pick (x : Fin 128 → EReal) (n : Fin 128) :
    ∑ l : Fin 128, x l * FloatOps.sitofp (F := Ideal) .f32 (BitVec.setWidth 32 (IntOp.cmpi .eq (BitVec.ofNat 32 l.val) (BitVec.ofNat 32 n.val)))
      = x n := by
  simp only [onehot, mul_ite, mul_one, mul_zero, Finset.sum_ite_eq', Finset.mem_univ, if_true]

/-- The cutoff function. -/
def fade (r : EReal) : EReal :=
  Ideal.ofBits .f32 0x3F000000#32 * Ideal.cos (((13176795 / 14680064 : ℝ) : EReal) * r) + Ideal.ofBits .f32 0x3F000000#32

theorem hd2_at (j k : Fin 128) : hd2 x0 (ix2 j k) = Ideal.ofBits .f32 0x3EF33333#32 * x0 (ix2 j k) * x0 (ix2 j k) := by
  unfold hd2 k0_pay3
  pointwise

theorem urow8_at (c : Fin 8) (k : Fin 128) : urow8 i x1 x2 (ix2 c k)
    = if x1 (ix2 c k) < Ideal.ofBits .f32 0x40600000#32 ∧ k ≠ atom i c then x2 (ix2 0 k) * fade (x1 (ix2 c k)) else 0 := by
  unfold urow8 k0_pay6
  pointwise
  rw [atom_word', name_pi]
  show Scalar.select _ _ _ = _
  unfold Scalar.select
  refine if_congr ?_ rfl rfl
  show _ = 1#1 ↔ _
  rw [show ∀ x y : BitVec 1, IntOp.andi x y = 1#1 ↔ x = 1#1 ∧ y = 1#1 by decide, ofBool_decide_eq_one_iff,
    cmpi_ne_ofNat_eq_one_iff (by omega) (by omega), ne_eq, Fin.val_inj]

theorem inv8_at (c : Fin 8) (k : Fin 128) : inv8 x1 (ix2 c k) = Ideal.div 1 (x1 (ix2 c k)) := by
  unfold inv8 k0_pay7
  pointwise

theorem icol8_at (j : Fin 128) (c : Fin 8) : icol8 i x0 (ix2 j c) = Ideal.div 1 (x0 (ix2 j (atom i c))) := by
  unfold icol8 k0_pay12 k0_pay11 k0_pay10 k0_pay9 k0_pay8
  pointwise
  rw [atom_word, pick (fun l => x0 (ix2 j l))]

theorem hcol8_at (j : Fin 128) (c : Fin 8) : hcol8 i x0 (ix2 j c) = Ideal.ofBits .f32 0x3F000000#32 * x0 (ix2 j (atom i c)) := by
  unfold hcol8 k0_pay14 k0_pay11 k0_pay10 k0_pay9 k0_pay8
  pointwise
  rw [atom_word, pick (fun l => x0 (ix2 j l))]

theorem hcol95_at (j : Fin 128) (c : Fin 8) : hcol95 i x0 (ix2 j c) = Ideal.ofBits .f32 0x3EF33333#32 * x0 (ix2 j (atom i c)) := by
  unfold hcol95 k0_pay15 k0_pay11 k0_pay10 k0_pay9 k0_pay8
  pointwise
  rw [atom_word, pick (fun l => x0 (ix2 j l))]

theorem hicol95_at (j : Fin 128) (c : Fin 8) :
    hicol95 i x0 (ix2 j c) = Ideal.ofBits .f32 0x3EF33333#32 * Ideal.div 1 (x0 (ix2 j (atom i c))) := by
  unfold hicol95 k0_pay16 k0_pay12 k0_pay11 k0_pay10 k0_pay9 k0_pay8
  pointwise
  rw [atom_word, pick (fun l => x0 (ix2 j l))]

theorem ucol8_at (j : Fin 128) (c : Fin 8) : ucol8 i x0 x3 (ix2 j c)
    = if x0 (ix2 j (atom i c)) < Ideal.ofBits .f32 0x40600000#32 ∧ j ≠ atom i c then x3 (ix2 j 0) * fade (x0 (ix2 j (atom i c))) else 0 := by
  unfold ucol8 k0_pay13 k0_pay11 k0_pay10 k0_pay9 k0_pay8 k0_pay4
  pointwise
  rw [atom_word, pick (fun l => x0 (ix2 j l)), name_pi, onehot]
  unfold Scalar.select
  refine if_congr ?_ rfl rfl
  show _ = 1#1 ↔ _
  rw [show ∀ x y : BitVec 1, IntOp.andi x y = 1#1 ↔ x = 1#1 ∧ y = 1#1 by decide, ofBool_decide_eq_one_iff, ofBool_decide_eq_one_iff,
    Consts.half]
  refine and_congr_right fun _ => ?_
  by_cases h : j = atom i c
  · rw [if_pos h]
    refine iff_of_false ?_ (fun hn => hn h)
    rw [← EReal.coe_one, EReal.coe_lt_coe_iff]; norm_num
  · rw [if_neg h]
    refine iff_of_true ?_ h
    rw [← EReal.coe_zero, EReal.coe_lt_coe_iff]; norm_num

theorem mod8 (c : Fin 8) (h : c.val % 8 < 8) : (⟨c.val % 8, h⟩ : Fin 8) = c := Fin.ext (Nat.mod_eq_of_lt c.isLt)

theorem mean_at (c : Fin 8) (j k : Fin 128) : mean i x0 x1 c (ix2 j k)
    = Ideal.ofBits .f32 0x3F000000#32 * x0 (ix2 j (atom i c)) + Ideal.ofBits .f32 0x3F000000#32 * x1 (ix2 c k) := by
  unfold mean row col halves ones k0_pay17 k0_pay18
  pointwise
  simp only [mod8, hcol8_at, Finset.univ_unique, Finset.sum_singleton, mul_one]

theorem weight_at (c : Fin 8) (j k : Fin 128) : weight i x0 x1 x2 x3 c (ix2 j k)
    = if j ≠ k then ucol8 i x0 x3 (ix2 j c) * urow8 i x1 x2 (ix2 c k) else 0 := by
  unfold weight row col offdiag k0_pay5
  pointwise
  simp only [mod8, Finset.univ_unique, Finset.sum_singleton]
  unfold Scalar.select
  refine if_congr ?_ rfl rfl
  show _ = 1#1 ↔ _
  rw [cmpi_ne_ofNat_eq_one_iff (by omega) (by omega), ne_eq, Fin.val_inj]

/-- The clipped cosine of the angle between sides `a` and `b`, opposite to `e`, as the kernel works it out. -/
def clipped (a b e : EReal) : EReal :=
  min (Ideal.ofBits .f32 0x3F733333#32) (max (Ideal.ofBits .f32 0xBF733333#32)
    (Ideal.ofBits .f32 0x3EF33333#32 * a * Ideal.div 1 b + Ideal.ofBits .f32 0x3EF33333#32 * Ideal.div 1 a * b
      - Ideal.ofBits .f32 0x3EF33333#32 * e * e * (Ideal.div 1 a * Ideal.div 1 b)))

theorem cosine_at (c : Fin 8) (j k : Fin 128) :
    cosine i x0 x1 c (ix2 j k) = clipped (x0 (ix2 j (atom i c))) (x1 (ix2 c k)) (x0 (ix2 j k)) := by
  unfold cosine row col
  pointwise
  simp only [mod8, Finset.univ_unique, Finset.sum_singleton, hcol95_at, hicol95_at, inv8_at, icol8_at, hd2_at, clipped]

theorem sine_at (c : Fin 8) (j k : Fin 128) : sine i x0 x1 c (ix2 j k)
    = Ideal.sqrt (1 - cosine i x0 x1 c (ix2 j k) * cosine i x0 x1 c (ix2 j k)) := by
  unfold sine
  pointwise

/-! ### The sum over the pairs -/

/-- Row `r` of tile `g`. -/
def tileRow (g : ℕ) (r : Fin 8) : Fin 128 := ⟨8 * (g % 16) + r.val, by omega⟩

theorem tile_at (v : FVec Ideal S128x128 .f32) (g : ℕ) (r : Fin 8) (k : Fin 128) : tile g v (ix2 r k) = v (ix2 (tileRow g r) k) := by
  unfold tile
  pointwise
  rfl

/-- A number squared. -/
def square (x : EReal) : EReal := x * x

/-- The angular factor at the shift of column `p`, of a clipped cosine. -/
def angularOf (p : Fin 32) (x : EReal) : EReal :=
  square (square (square (square (square (Ideal.ofBits .f32 0x3F000000#32 + x * ((Table.halfCos (p.val % 8) : ℝ) : EReal)
    + Ideal.sqrt (1 - x * x) * ((Table.halfSin (p.val % 8) : ℝ) : EReal))))))

/-- The radial factor at the shift of column `p`, of a mean distance. -/
def radialOf (p : Fin 32) (x : EReal) : EReal :=
  Ideal.exp2 (((-(8 * (Real.log 2)⁻¹) : ℝ) : EReal)
    * ((x - ((Table.shift (p.val / 8) : ℝ) : EReal)) * (x - ((Table.shift (p.val / 8) : ℝ) : EReal))))

/-- What the pair of atoms `j`, `k` adds to column `p` of centre `c`. -/
def entry (c : Fin 8) (p : Fin 32) (j k : Fin 128) : EReal :=
  angularOf p (cosine i x0 x1 c (ix2 j k)) * (weight i x0 x1 x2 x3 c (ix2 j k) * radialOf p (mean i x0 x1 c (ix2 j k)))

theorem sq_at (v : FVec Ideal S8x128 .f32) (j : S8x128.Idx) : sq v j = square (v j) := rfl

theorem angular_at (c : Fin 8) (p : Fin 32) (g : ℕ) (r : Fin 8) (k : Fin 128) :
    angular i x0 x1 c g (p.val % 8) (ix2 r k) = angularOf p (cosine i x0 x1 c (ix2 (tileRow g r) k)) := by
  unfold angular
  simp only [sq_at]
  unfold angularOf
  refine congrArg (fun v => square (square (square (square (square v))))) ?_
  rw [← hcos_eq ⟨p.val % 8, Nat.mod_lt _ (by omega)⟩, ← hsin_eq ⟨p.val % 8, Nat.mod_lt _ (by omega)⟩ (ix2 r k), ← sine_at,
    ← tile_at (cosine i x0 x1 c), ← tile_at (sine i x0 x1 c)]
  rfl

theorem radial_at (c : Fin 8) (p : Fin 32) (g : ℕ) (r : Fin 8) (k : Fin 128) :
    radial i x0 x1 x2 x3 c g (p.val / 8) (ix2 r k)
      = weight i x0 x1 x2 x3 c (ix2 (tileRow g r) k) * radialOf p (mean i x0 x1 c (ix2 (tileRow g r) k)) := by
  unfold radial radialOf
  rw [← shift_eq ⟨p.val / 8, by omega⟩, ← name_eta, ← tile_at (weight i x0 x1 x2 x3 c), ← tile_at (mean i x0 x1 c)]
  rfl

/-- The accumulator after tile `g`: the entries of one row of each tile, added up. -/
theorem acc_at (c : Fin 8) (p : Fin 32) (g : ℕ) (r : Fin 8) (k : Fin 128) :
    acc i x0 x1 x2 x3 c p g (ix2 r k) = ∑ u ∈ Finset.range (g + 1), entry i x0 x1 x2 x3 c p (tileRow u r) k := by
  have one : ∀ u, mulf (angular i x0 x1 c u (p.val % 8)) (radial i x0 x1 x2 x3 c u (p.val / 8)) (ix2 r k)
      = entry i x0 x1 x2 x3 c p (tileRow u r) k := fun u => by
    unfold entry
    rw [← angular_at, ← radial_at]
    rfl
  induction g with
  | zero => rw [Finset.sum_range_one]; exact one 0
  | succ g ih => rw [Finset.sum_range_succ, ← ih, ← one]; rfl

/-- The sixteen tiles of eight rows are the 128 rows. -/
theorem sum_tiles (f : Fin 128 → EReal) : ∑ r : Fin 8, ∑ u ∈ Finset.range (15 + 1), f (tileRow u r) = ∑ j, f j := by
  simp only [Finset.sum_range]
  rw [Finset.sum_comm, ← Fintype.sum_prod_type', ← (finProdFinEquiv (m := 16) (n := 8)).sum_comp f]
  refine Finset.sum_congr rfl fun x _ => congrArg f (Fin.ext ?_)
  show 8 * (x.1.val % 16) + x.2.val = x.2.val + 8 * x.1.val
  omega

theorem partials_at (c : Fin 8) (p : Fin 32) (k : Fin 128) :
    partials i x0 x1 x2 x3 c (ix2 p k) = ∑ j, entry i x0 x1 x2 x3 c p j k := by
  unfold partials
  refine (concatenate_ofFn_unit_apply (t := S32x128) 0 (fun p : Fin 32 => shapeCast S1x128
      (multiReduction .add [0] S128 (acc i x0 x1 x2 x3 c p.val 15) 0x00000000#32 reduces_S8x128_S128 (.inl rfl) rfl)
      shapeCasts_S128_S1x128) _ rfl rfl (ix2 p k) p rfl (ix2 0 k) ?_).trans ?_
  · intro b hb
    match b with
    | ⟨0, _⟩ => exact absurd rfl hb
    | ⟨1, _⟩ => rfl
  · pointwise
    simp only [acc_at]
    exact sum_tiles fun j => entry i x0 x1 x2 x3 c p j k

theorem outRow_at (c : Fin 8) (p : Fin 32) : outRow i x0 x1 x2 x3 c (ix2 0 p) = ∑ j, ∑ k, entry i x0 x1 x2 x3 c p j k := by
  unfold outRow
  pointwise
  simp only [partials_at]
  exact Finset.sum_comm

theorem out_at (c : Fin 8) (p : Fin 32) : out i x0 x1 x2 x3 (ix2 c p) = ∑ j, ∑ k, entry i x0 x1 x2 x3 c p j k := by
  unfold out
  refine (concatenate_ofFn_unit_apply (t := S8x32) 0 (fun c : Fin 8 => outRow i x0 x1 x2 x3 c.val) _ rfl rfl (ix2 c p) c rfl (ix2 0 p) ?_).trans
    (outRow_at i x0 x1 x2 x3 c p)
  intro b hb
  match b with
  | ⟨0, _⟩ => exact absurd rfl hb
  | ⟨1, _⟩ => rfl

end Cert.KernelIdeal.Body

end
-- ==== Proof.KernelValue.lean ====
/-
  The array the idealized kernel leaves, entry by entry: row `8 t + c` is written once, by point `t`, as the output row of
  centre `c` of the blocks that point reads.
-/
module

public import proofs.«01_k».proof.Proof.KernelRun
public import proofs.«01_k».proof.Proof.Kern
public import Idealize.ShloMosaic.Lib.Pipeline.Value
public import Idealize.ShloMosaic.Lib.StableHlo.ReadAt

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The distances, as launched. -/
abbrev dist (c : Dev nD) : FVec Ideal S128x128 .f32 := m ((c : Thread nD τ).loc main_arg0)
/-- The species weights, as launched. -/
abbrev spec (c : Dev nD) : FVec Ideal S128 .f32 := m ((c : Thread nD τ).loc main_arg1)

theorem V_row (c : Dev nD) (k : Fin 128) : V m c main_v0 (ix2 (0 : Fin 1) k) = spec m c (ix1 k) := by
  unfold V
  after_reads_at

theorem V_col (c : Dev nD) (j : Fin 128) : V m c main_v1 (ix2 j (0 : Fin 1)) = spec m c (ix1 j) := by
  unfold V
  after_reads_at

/-- The number of a point is its one coordinate. -/
theorem coord (t : Fin grid0.N) : (grid0.coords t 0).val = t.val := by
  revert t; decide +kernel

theorem iblk0_at (c : Dev nD) (t : Fin cfg0.N) (j k : Fin 128) : iblk m c 0 t (ix2 j k) = dist m c (ix2 j k) := by
  unfold iblk
  rw [View.read_apply]
  refine (congrFun (V_main_arg0 m c) _).trans (congrArg (dist m c) ?_)
  funext a
  refine Fin.ext ?_
  match a with
  | ⟨0, _⟩ => exact win0_0.rect_emb_val_of_index_zero t 0 rfl _
  | ⟨1, _⟩ => exact win0_0.rect_emb_val_of_index_zero t 1 rfl _

theorem iblk1_at (c : Dev nD) (t : Fin cfg0.N) (j : Fin 8) (k : Fin 128) :
    iblk m c 1 t (ix2 j k) = dist m c (ix2 (atom (grid0.coords t) j) k) := by
  unfold iblk
  rw [View.read_apply]
  refine (congrFun (V_main_arg0 m c) _).trans (congrArg (dist m c) ?_)
  funext a
  refine Fin.ext ?_
  match a with
  | ⟨0, _⟩ =>
    refine (win0_1.rect_emb_val t (ix2 j k) 0).trans ?_
    show win0_1.index t 0 * 8 + j.val = 8 * (grid0.coords t 0).val + j.val
    have : win0_1.index t 0 = (grid0.coords t 0).val := by revert t; decide +kernel
    omega
  | ⟨1, _⟩ => exact win0_1.rect_emb_val_of_index_zero t 1 rfl _

theorem iblk2_at (c : Dev nD) (t : Fin cfg0.N) (k : Fin 128) : iblk m c 2 t (ix2 (0 : Fin 1) k) = spec m c (ix1 k) := by
  refine Eq.trans ?_ (V_row m c k)
  unfold iblk
  rw [View.read_apply]
  refine congrArg (V m c main_v0) ?_
  funext a
  refine Fin.ext ?_
  match a with
  | ⟨0, _⟩ => exact win0_2.rect_emb_val_of_index_zero t 0 rfl _
  | ⟨1, _⟩ => exact win0_2.rect_emb_val_of_index_zero t 1 rfl _

theorem iblk3_at (c : Dev nD) (t : Fin cfg0.N) (j : Fin 128) : iblk m c 3 t (ix2 j (0 : Fin 1)) = spec m c (ix1 j) := by
  refine Eq.trans ?_ (V_col m c j)
  unfold iblk
  rw [View.read_apply]
  refine congrArg (V m c main_v1) ?_
  funext a
  refine Fin.ext ?_
  match a with
  | ⟨0, _⟩ => exact win0_3.rect_emb_val_of_index_zero t 0 rfl _
  | ⟨1, _⟩ => exact win0_3.rect_emb_val_of_index_zero t 1 rfl _

/-! ### The written array -/

theorem index_inj : ∀ t t' : Fin cfg0.N, win0_4.index t = win0_4.index t' → t = t' :=
  (by decide +kernel : ∀ t t' : Fin grid0.N, win0_4.index t = win0_4.index t' → t = t')

/-- No two points write the same entry. -/
theorem apart : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (index_inj t t' h)

/-- What point `t` writes back. -/
theorem flushed_at (c : Dev nD) (t : Fin cfg0.N) (r : Fin 8) (p : Fin 32) :
    (dats m 0 c).flushed 4 t (ix2 r p)
      = ∑ j, ∑ k, entry (grid0.coords t) (iblk m c 0 t) (iblk m c 1 t) (iblk m c 2 t) (iblk m c 3 t) r p j k := by
  rw [← out_at]
  show (cfg0.win 4).cut (grid0.coords t) ((dats m 0 c).after 4 t) (ix2 r p) = _
  rw [after0_4]
  unfold out0_4
  rw [View.canon_cons_unit_zero (S := S8x32) (by decide)]
  rfl

/-- The point that writes row `n`. -/
def pointOf (n : Fin 128) : Fin cfg0.N := ⟨n.val / 8, by show n.val / 8 < grid0.N; have : grid0.N = 16 := N_0; omega⟩
/-- The row's place in the point's block. -/
def placeOf (n : Fin 128) : Fin 8 := ⟨n.val % 8, Nat.mod_lt _ (by omega)⟩

theorem atom_of (n : Fin 128) : atom (grid0.coords (pointOf n)) (placeOf n) = n := by
  refine Fin.ext ?_
  show 8 * (grid0.coords (pointOf n) 0).val + n.val % 8 = n.val
  rw [coord]
  show 8 * (n.val / 8) + n.val % 8 = n.val
  omega

theorem emb_of (n : Fin 128) (p : Fin 32) :
    ((cfg0.win 4).blk (pointOf n)).view.emb (ix2 (placeOf n) p) = (ix2 n p : S128x32.Idx) := by
  funext a
  refine Fin.ext ?_
  match a with
  | ⟨0, _⟩ =>
    refine (win0_4.rect_emb_val (pointOf n) (ix2 (placeOf n) p) 0).trans ?_
    have h : ∀ t : Fin grid0.N, win0_4.index t 0 = t.val := by decide +kernel
    show win0_4.index (pointOf n) 0 * 8 + n.val % 8 = n.val
    rw [h]
    show n.val / 8 * 8 + n.val % 8 = n.val
    omega
  | ⟨1, _⟩ => exact win0_4.rect_emb_val_of_index_zero (pointOf n) 1 rfl _

/-- Entry `n`, `p` of the array after the run. -/
theorem final_at (c : Dev nD) (n : Fin 128) (p : Fin 32) :
    (dats m 0 c).arrAt 4 cfg0.N (ix2 n p : S128x32.Idx)
      = ∑ j, ∑ k, entry (grid0.coords (pointOf n)) (iblk m c 0 (pointOf n)) (iblk m c 1 (pointOf n)) (iblk m c 2 (pointOf n))
          (iblk m c 3 (pointOf n)) (placeOf n) p j k := by
  rw [← flushed_at]
  have h := (dats m 0 c).arrAt_emb_eq_flushed 4 apart (pointOf n) (flush0_4 _) (ix2 (placeOf n) p)
  rw [emb_of] at h
  exact h

/-- The run: the result array named, the arguments as launched. -/
theorem run_named : θ_run defs (onTc (τ := τ) (main (F := Ideal))) ⟨m, fun _ => 0, ρ⟩ fun r => ∀ c : Dev nD,
      r.2.mem ((c : Thread nD τ).loc main_v2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Body

end
-- ==== Proof.Pairs.lean ====
/-
  Sums over pairs: a sum over all ordered pairs of a symmetric family that vanishes on the diagonal is twice the sum
  over the increasing pairs, and a strictly increasing enumeration of the 8001 increasing pairs that avoid one index
  runs through all of them.
-/
module

public import Idealize.ShloMosaic.PureOps.Ideal

@[expose] public section

namespace Cert.Pairs

theorem add_self (x : EReal) : x + x = 2 * x := by
  induction x using EReal.rec with
  | bot => rw [EReal.bot_add, show (2 : EReal) = ((2 : ℝ) : EReal) from rfl, EReal.coe_mul_bot_of_pos (by norm_num)]
  | coe r => rw [show (2 : EReal) = ((2 : ℝ) : EReal) from rfl, ← EReal.coe_add, ← EReal.coe_mul]; congr 1; ring
  | top => rw [EReal.top_add_top, show (2 : EReal) = ((2 : ℝ) : EReal) from rfl, EReal.coe_mul_top_of_pos (by norm_num)]

/-- The increasing pairs. -/
def lower (n : ℕ) : Finset (Fin n × Fin n) := Finset.univ.filter fun q => q.1 < q.2

/-- Ordered pairs, folded onto the increasing ones. -/
theorem sum_pairs {n : ℕ} (f : Fin n → Fin n → EReal) (hs : ∀ j k, f j k = f k j) (h0 : ∀ j, f j j = 0) :
    ∑ j, ∑ k, f j k = ∑ q ∈ lower n, 2 * f q.1 q.2 := by
  rw [← Fintype.sum_prod_type' f, ← Finset.sum_filter_add_sum_filter_not Finset.univ (fun q : Fin n × Fin n => q.1 < q.2)]
  have e : ∑ q ∈ Finset.univ.filter (fun q : Fin n × Fin n => ¬ q.1 < q.2), f q.1 q.2 = ∑ q ∈ lower n, f q.1 q.2 := by
    rw [← Finset.sum_filter_add_sum_filter_not (Finset.univ.filter fun q : Fin n × Fin n => ¬ q.1 < q.2) (fun q => q.2 < q.1)]
    have z : ∑ q ∈ (Finset.univ.filter fun q : Fin n × Fin n => ¬ q.1 < q.2).filter (fun q => ¬ q.2 < q.1), f q.1 q.2 = 0 := by
      refine Finset.sum_eq_zero fun q hq => ?_
      simp only [Finset.mem_filter, Finset.mem_univ, true_and, not_lt] at hq
      rw [le_antisymm hq.2 hq.1, h0]
    rw [z, add_zero]
    refine Finset.sum_nbij' Prod.swap Prod.swap ?_ ?_ ?_ ?_ ?_
    · intro q hq; simp only [lower, Finset.mem_filter, Finset.mem_univ, true_and] at hq ⊢; exact hq.2
    · intro q hq
      simp only [lower, Finset.mem_filter, Finset.mem_univ, true_and] at hq ⊢
      exact ⟨not_lt.mpr hq.le, hq⟩
    · intro q _; rfl
    · intro q _; rfl
    · intro q _; exact hs _ _
  rw [e]
  show ∑ q ∈ lower n, f q.1 q.2 + _ = _
  rw [← Finset.sum_add_distrib]
  exact Finset.sum_congr rfl fun q _ => add_self _

/-- The increasing pairs that avoid `i`. -/
def away {n : ℕ} (i : Fin n) : Finset (Fin n × Fin n) := Finset.univ.filter fun q => q.1 < q.2 ∧ q.1 ≠ i ∧ q.2 ≠ i

theorem card_away {n : ℕ} (i : Fin n) : 2 * (away i).card = (n - 1) * (n - 1) - (n - 1) := by
  have hc : (Finset.univ.erase i).card = n - 1 := by
    rw [Finset.card_erase_of_mem (Finset.mem_univ i), Finset.card_univ, Fintype.card_fin]
  have ho := Finset.offDiag_card (Finset.univ.erase i)
  rw [hc] at ho
  rw [← ho, ← Finset.card_filter_add_card_filter_not (s := (Finset.univ.erase i).offDiag) (fun q : Fin n × Fin n => q.1 < q.2)]
  have e1 : ((Finset.univ.erase i).offDiag).filter (fun q => q.1 < q.2) = away i := by
    ext q
    simp only [away, Finset.mem_filter, Finset.mem_offDiag, Finset.mem_erase, Finset.mem_univ, and_true, true_and]
    constructor
    · rintro ⟨⟨a, b, _⟩, c⟩; exact ⟨c, a, b⟩
    · rintro ⟨c, a, b⟩; exact ⟨⟨a, b, c.ne⟩, c⟩
  have e2 : (((Finset.univ.erase i).offDiag).filter (fun q => ¬ q.1 < q.2)).card = (away i).card := by
    refine Finset.card_nbij' Prod.swap Prod.swap ?_ ?_ ?_ ?_
    · intro q hq
      simp only [away, Finset.coe_filter, Set.mem_setOf_eq, Finset.mem_offDiag, Finset.mem_erase, Finset.mem_univ, and_true, true_and] at hq ⊢
      exact ⟨lt_of_le_of_ne (not_lt.mp hq.2) (Ne.symm hq.1.2.2), hq.1.2.1, hq.1.1⟩
    · intro q hq
      simp only [away, Finset.coe_filter, Set.mem_setOf_eq, Finset.mem_offDiag, Finset.mem_erase, Finset.mem_univ, and_true, true_and] at hq ⊢
      exact ⟨⟨hq.2.2, hq.2.1, hq.1.ne'⟩, not_lt.mpr hq.1.le⟩
    · intro q _; rfl
    · intro q _; rfl
  rw [e1, e2]; ring

/-- Lexicographic order on pairs of indices. -/
def before {n : ℕ} (p q : Fin n × Fin n) : Prop := p.1 < q.1 ∨ p.1 = q.1 ∧ p.2 < q.2

theorem before_trans {n : ℕ} {p q r : Fin n × Fin n} (h : before p q) (h' : before q r) : before p r := by
  rcases h with h | ⟨h, h2⟩ <;> rcases h' with h' | ⟨h', h2'⟩
  · exact Or.inl (h.trans h')
  · exact Or.inl (h' ▸ h)
  · exact Or.inl (h ▸ h')
  · exact Or.inr ⟨h.trans h', h2.trans h2'⟩

theorem not_before_self {n : ℕ} (p : Fin n × Fin n) : ¬ before p p := by
  rintro (h | ⟨_, h⟩) <;> exact lt_irrefl _ h

/-- An enumeration that increases from one entry to the next repeats nothing. -/
theorem injective_of_steps {n T : ℕ} (t : Fin T → Fin n × Fin n)
    (h : ∀ (k : ℕ) (hk : k + 1 < T), before (t ⟨k, Nat.lt_of_succ_lt hk⟩) (t ⟨k + 1, hk⟩)) : Function.Injective t := by
  have up : ∀ (d k : ℕ) (hk : k + d + 1 < T), before (t ⟨k, by omega⟩) (t ⟨k + d + 1, hk⟩) := by
    intro d
    induction d with
    | zero => intro k hk; exact h k hk
    | succ d ih => intro k hk; exact before_trans (ih k (by omega)) (h (k + d + 1) hk)
  intro a b hab
  by_contra hne
  rcases lt_or_gt_of_ne hne with hlt | hlt
  · obtain ⟨d, hd⟩ := Nat.exists_eq_add_of_lt (Fin.lt_def.mp hlt)
    have hb : b = ⟨a.val + d + 1, by have := b.isLt; omega⟩ := Fin.ext hd
    have := up d a.val (by have := b.isLt; omega)
    rw [← hb] at this
    exact not_before_self _ (hab ▸ this)
  · obtain ⟨d, hd⟩ := Nat.exists_eq_add_of_lt (Fin.lt_def.mp hlt)
    have hb : a = ⟨b.val + d + 1, by have := a.isLt; omega⟩ := Fin.ext hd
    have := up d b.val (by have := a.isLt; omega)
    rw [← hb] at this
    exact not_before_self _ (hab ▸ this)

/-- The sum over all ordered pairs is the sum over the enumerated triplets, each counted twice. -/
theorem sum_enumerated (i : Fin 128) (t : Fin 8001 → Fin 128 × Fin 128)
    (hstep : ∀ (k : ℕ) (hk : k + 1 < 8001), before (t ⟨k, Nat.lt_of_succ_lt hk⟩) (t ⟨k + 1, hk⟩))
    (hlist : ∀ k, (t k).1 < (t k).2 ∧ (t k).1 ≠ i ∧ (t k).2 ≠ i)
    (f : Fin 128 → Fin 128 → EReal) (hs : ∀ j k, f j k = f k j) (h0 : ∀ j, f j j = 0) (hi : ∀ k, f i k = 0) :
    ∑ j, ∑ k, f j k = ∑ u, 2 * f (t u).1 (t u).2 := by
  have hinj := injective_of_steps t hstep
  have himg : Finset.univ.image t = away i := by
    refine Finset.eq_of_subset_of_card_le ?_ ?_
    · intro q hq
      obtain ⟨k, _, rfl⟩ := Finset.mem_image.mp hq
      exact Finset.mem_filter.mpr ⟨Finset.mem_univ _, hlist k⟩
    · rw [Finset.card_image_of_injective _ hinj, Finset.card_univ, Fintype.card_fin]
      have := card_away i
      omega
  rw [sum_pairs f hs h0, ← Finset.sum_image (s := Finset.univ) (g := t) (f := fun q => 2 * f q.1 q.2) (fun a _ b _ e => hinj e), himg]
  symm
  refine Finset.sum_subset ?_ ?_
  · intro q hq
    simp only [away, lower, Finset.mem_filter, Finset.mem_univ, true_and] at hq ⊢
    exact hq.1
  · intro q hq hq'
    simp only [away, lower, Finset.mem_filter, Finset.mem_univ, true_and, not_and, not_not] at hq hq'
    by_cases h1 : q.1 = i
    · rw [h1, hi, mul_zero]
    · rw [hq' hq h1, hs, hi, mul_zero]

end Cert.Pairs
-- ==== Proof.Pre.lean ====
/-
  What the precondition says, entry by entry.
-/
module

public import proofs.«01_k».proof.Proof.Gen.Pre_problem_inputs
public import proofs.«01_k».proof.Proof.Consts
public import proofs.«01_k».proof.Proof.Pairs
public import proofs.«01_k».proof.Proof.Table
public import Idealize.ShloMosaic.Lib.Pointwise
public import Idealize.ShloMosaic.Lib.IdealHost
public import Idealize.ShloMosaic.Lib.WordCmp

@[expose] public section

set_option maxRecDepth 16384

noncomputable section

namespace Cert.Pre_problem_inputs.Read

open Cert.Pre_problem_inputs Cert.Pre_problem_inputs.Gen Idealize.ShloMosaic Idealize.ShloMosaic.WordCmp Cert.Pairs

theorem or_one (x y : BitVec 1) : IntOp.ori x y = 1#1 ↔ x = 1#1 ∨ y = 1#1 := by revert x y; decide
theorem and_one (x y : BitVec 1) : IntOp.andi x y = 1#1 ↔ x = 1#1 ∧ y = 1#1 := by revert x y; decide

/-- Two positions below 128 have the same word only if they are the same. -/
theorem same_word (i j : Fin 128) : IntOp.cmpi .eq (BitVec.ofNat 32 i.val) (BitVec.ofNat 32 j.val) = 1#1 ↔ i = j := by
  rw [cmpi_eq_ofNat_eq_one_iff (by omega) (by omega), Fin.val_inj]

/-- A word that is at least 0 and less than 128 is that of a position. -/
theorem position (x : BitVec 32) (h0 : IntOp.cmpi .sge x 0#32 = 1#1) (h1 : IntOp.cmpi .slt x 128#32 = 1#1) :
    ∃ a : Fin 128, x = BitVec.ofNat 32 a.val := by
  rw [cmpi_sge_eq, ofBool_decide_eq_one_iff] at h0
  rw [cmpi_slt_eq, ofBool_decide_eq_one_iff] at h1
  have hz : (0#32).toInt = 0 := by decide
  have hm : (128#32).toInt = 128 := by decide
  rw [hz] at h0
  rw [hm] at h1
  have hx := BitVec.toInt_eq_toNat_cond x
  have hlt := x.isLt
  refine ⟨⟨x.toNat, ?_⟩, ?_⟩
  · split at hx <;> omega
  · simp

theorem less_word (i j : Fin 128) : IntOp.cmpi .slt (BitVec.ofNat 32 i.val) (BitVec.ofNat 32 j.val) = 1#1 ↔ i < j := by
  rw [cmpi_slt_ofNat_eq_one_iff (by omega) (by omega), Fin.lt_def]

theorem unlike_word (i j : Fin 128) : IntOp.cmpi .ne (BitVec.ofNat 32 i.val) (BitVec.ofNat 32 j.val) = 1#1 ↔ i ≠ j := by
  rw [cmpi_ne_ofNat_eq_one_iff (by omega) (by omega), ne_eq, Fin.val_inj]

/-- Output column `8 a + s`. -/
abbrev column (a : Fin 4) (s : Fin 8) : Fin 32 := ⟨a.val * 8 + s.val, by omega⟩

/-- The column `8 a + s` has the angular shift `s`. -/
def byShift (q : FVec Ideal S32x4 .f32) (a : Fin 4) (s : Fin 8) : Prop :=
  ∃ θ : ℝ, q (ix2 (column a s) 1) = (θ : EReal) ∧ Real.cos θ = 2 * Table.halfCos s ∧ Real.sin θ = 2 * Table.halfSin s

/-- The precondition, read: symmetric distances, no two atoms closer than the least distance, the triangle inequality,
    the enumerated triplets, and the parameters of the columns. -/
structure Good (d : FVec Ideal S128x128 .f32) (q : FVec Ideal S32x4 .f32) (tr : IVec S128x8001x3 32) : Prop where
  symm : ∀ i j, d (ix2 i j) = d (ix2 j i)
  apart : ∀ i j, i ≠ j → Ideal.ofBits .f32 0x3727C5AC#32 ≤ d (ix2 i j)
  triangle : ∀ i j k, i ≠ j → i ≠ k → j ≠ k → d (ix2 j k) ≤ d (ix2 i j) + d (ix2 i k)
  listed : ∃ n : Fin 128 → Fin 8001 → Fin 128 × Fin 128,
    (∀ i t, tr (ix3 i t 0) = BitVec.ofNat 32 i.val ∧ tr (ix3 i t 1) = BitVec.ofNat 32 (n i t).1.val
      ∧ tr (ix3 i t 2) = BitVec.ofNat 32 (n i t).2.val ∧ (n i t).1 < (n i t).2 ∧ (n i t).1 ≠ i ∧ (n i t).2 ≠ i)
    ∧ ∀ (i : Fin 128) (k : ℕ) (hk : k + 1 < 8001), before (n i ⟨k, Nat.lt_of_succ_lt hk⟩) (n i ⟨k + 1, hk⟩)
  zeta : ∀ a s, q (ix2 (column a s) 0) = ((32 : ℝ) : EReal)
  eta : ∀ a s, q (ix2 (column a s) 2) = ((8 : ℝ) : EReal)
  radial : ∀ a s, q (ix2 (column a s) 3) = ((Table.shift a : ℝ) : EReal)
  angular : ∀ a s, byShift q a s

variable {d : FVec Ideal S128x128 .f32} {z : FVec Ideal S128 .f32} {q : FVec Ideal S32x4 .f32} {tr : IVec S128x8001x3 32}

theorem symmetric_at (h : (fn (F := Ideal) d z q tr).1 = fun _ => 1#1) (i j : Fin 128) : d (ix2 i j) = d (ix2 j i) := by
  have h := congrFun h (ix2 i j)
  dsimp only [fn, fn_part1, fn_part2, fn_part3, fn_part4, fn_part5, fn_part6] at h
  pointwise at h
  rwa [ofBool_decide_eq_one_iff] at h

theorem apart_at (h : (fn (F := Ideal) d z q tr).2.1 = fun _ => 1#1) (i j : Fin 128) (hne : i ≠ j) :
    Ideal.ofBits .f32 0x3727C5AC#32 ≤ d (ix2 i j) := by
  have h := congrFun h (ix2 i j)
  dsimp only [fn, fn_part1, fn_part2, fn_part3, fn_part4, fn_part5, fn_part6] at h
  pointwise at h
  rw [or_one, same_word, ofBool_decide_eq_one_iff] at h
  exact h.resolve_right hne

theorem triangle_at (h : (fn (F := Ideal) d z q tr).2.2.1 = fun _ => 1#1) (i j k : Fin 128) (h1 : i ≠ j) (h2 : i ≠ k) (h3 : j ≠ k) :
    d (ix2 j k) ≤ d (ix2 i j) + d (ix2 i k) := by
  have h := congrFun h (ix3 i j k)
  dsimp only [fn, fn_part1, fn_part2, fn_part3, fn_part4, fn_part5, fn_part6] at h
  pointwise at h
  rw [or_one, or_one, or_one, same_word, same_word, same_word, ofBool_decide_eq_one_iff] at h
  exact ((h.resolve_right h3).resolve_right h2).resolve_right h1

theorem listed_at (h : (fn (F := Ideal) d z q tr).2.2.2.1 = fun _ => 1#1) (i : Fin 128) (t : Fin 8001) :
    ∃ n : Fin 128 × Fin 128, tr (ix3 i t 0) = BitVec.ofNat 32 i.val ∧ tr (ix3 i t 1) = BitVec.ofNat 32 n.1.val
      ∧ tr (ix3 i t 2) = BitVec.ofNat 32 n.2.val ∧ n.1 < n.2 ∧ n.1 ≠ i ∧ n.2 ≠ i := by
  have h := congrFun h (ix2 i t)
  dsimp only [fn, fn_part1, fn_part2, fn_part3, fn_part4, fn_part5, fn_part6] at h
  pointwise at h
  simp only [and_one] at h
  obtain ⟨⟨⟨⟨⟨h0, h1⟩, h2⟩, h3⟩, h4⟩, h5⟩ := h
  have e0 : tr (ix3 i t 0) = BitVec.ofNat 32 i.val := by
    rw [cmpi_eq_eq, ofBool_decide_eq_one_iff] at h0
    first | exact h0 | exact BitVec.eq_of_toNat_eq h0
  have l1 : IntOp.cmpi .slt (tr (ix3 i t 1)) 128#32 = 1#1 := by
    rw [cmpi_slt_eq, ofBool_decide_eq_one_iff] at *
    omega
  have g2 : IntOp.cmpi .sge (tr (ix3 i t 2)) 0#32 = 1#1 := by
    rw [cmpi_sge_eq, ofBool_decide_eq_one_iff] at *
    rw [cmpi_slt_eq, ofBool_decide_eq_one_iff] at h2
    omega
  obtain ⟨j, ej⟩ := position _ h1 l1
  obtain ⟨k, ek⟩ := position _ g2 h3
  rw [ej, ek, less_word] at h2
  rw [ej, e0, unlike_word] at h4
  rw [ek, e0, unlike_word] at h5
  exact ⟨(j, k), e0, ej, ek, h2, h4, h5⟩

theorem increasing_at (h : (fn (F := Ideal) d z q tr).2.2.2.2.1 = fun _ => 1#1) (i : Fin 128) (n : Fin 8001 → Fin 128 × Fin 128)
    (h1 : ∀ t, tr (ix3 i t 1) = BitVec.ofNat 32 (n t).1.val) (h2 : ∀ t, tr (ix3 i t 2) = BitVec.ofNat 32 (n t).2.val)
    (k : ℕ) (hk : k + 1 < 8001) : before (n ⟨k, Nat.lt_of_succ_lt hk⟩) (n ⟨k + 1, hk⟩) := by
  have h := congrFun h (ix2 i ⟨k, Nat.lt_of_succ_lt_succ hk⟩)
  dsimp only [fn, fn_part1, fn_part2, fn_part3, fn_part4, fn_part5, fn_part6] at h
  pointwise at h
  rw [or_one, and_one, h1, h1, h2, h2, less_word, less_word, same_word] at h
  have e : (⟨1 + k, by omega⟩ : Fin 8001) = ⟨k + 1, hk⟩ := Fin.ext (Nat.add_comm 1 k)
  rw [e] at h
  exact h

theorem powers_at (h : (fn (F := Ideal) d z q tr).2.2.2.2.2.1 = fun _ => 1#1) (a : Fin 4) (s : Fin 8) :
    q (ix2 (column a s) 0) = ((32 : ℝ) : EReal) ∧ q (ix2 (column a s) 2) = ((8 : ℝ) : EReal) := by
  have h := congrFun h (ix2 a s)
  dsimp only [fn, fn_part1, fn_part2, fn_part3, fn_part4, fn_part5, fn_part6] at h
  pointwise at h
  rwa [and_one, ofBool_decide_eq_one_iff, ofBool_decide_eq_one_iff, Consts.zeta, Consts.eta] at h

theorem radial_at (h : (fn (F := Ideal) d z q tr).2.2.2.2.2.2.1 = fun _ => 1#1) (a : Fin 4) (s : Fin 8) :
    q (ix2 (column a s) 3) = ((Table.shift a : ℝ) : EReal) := by
  have h := congrFun h (ix2 a s)
  dsimp only [fn, fn_part1, fn_part2, fn_part3, fn_part4, fn_part5, fn_part6] at h
  pointwise at h
  rw [ofBool_decide_eq_one_iff] at h
  rw [h]
  match a with
  | ⟨0, _⟩ => exact Consts.shift0
  | ⟨1, _⟩ => exact Consts.shift1
  | ⟨2, _⟩ => exact Consts.shift2
  | ⟨3, _⟩ => exact Consts.shift3

/-- A column whose half sine is written: it is that of a real angle. -/
theorem by_sine {x S C : EReal} {vS vC : ℝ} (eS : S = vS) (eC : C = vC)
    (h : IntOp.andi (BitVec.ofBool (decide (Ideal.ofBits .f32 0x3F000000#32 * Ideal.sin x = S)))
      (BitVec.ofBool (decide (0 < C * (Ideal.ofBits .f32 0x3F000000#32 * Ideal.cos x)))) = 1#1) :
    ∃ θ : ℝ, x = (θ : EReal) ∧ 1 / 2 * Real.sin θ = vS ∧ 0 < vC * (1 / 2 * Real.cos θ) := by
  rw [and_one, ofBool_decide_eq_one_iff, ofBool_decide_eq_one_iff, Consts.half, eS, eC] at h
  obtain ⟨h1, h2⟩ := h
  induction x with
  | bot => rw [Ideal.sin_bot, EReal.coe_mul_bot_of_pos (by norm_num)] at h1; exact absurd h1 (EReal.bot_ne_coe _)
  | top => rw [Ideal.sin_top, EReal.coe_mul_bot_of_pos (by norm_num)] at h1; exact absurd h1 (EReal.bot_ne_coe _)
  | coe θ =>
    rw [Ideal.sin_coe, ← EReal.coe_mul, EReal.coe_eq_coe_iff] at h1
    rw [Ideal.cos_coe, ← EReal.coe_mul, ← EReal.coe_mul, ← EReal.coe_zero, EReal.coe_lt_coe_iff] at h2
    exact ⟨θ, rfl, h1, h2⟩

/-- A column whose half cosine is written: it is that of a real angle. -/
theorem by_cosine {x C : EReal} {vC : ℝ} (eC : C = vC)
    (h : IntOp.andi (BitVec.ofBool (decide (Ideal.ofBits .f32 0x3F000000#32 * Ideal.cos x = C)))
      (BitVec.ofBool (decide (0 < Ideal.ofBits .f32 0x3F000000#32 * Ideal.sin x))) = 1#1) :
    ∃ θ : ℝ, x = (θ : EReal) ∧ 1 / 2 * Real.cos θ = vC ∧ 0 < 1 / 2 * Real.sin θ := by
  rw [and_one, ofBool_decide_eq_one_iff, ofBool_decide_eq_one_iff, Consts.half, eC] at h
  obtain ⟨h1, h2⟩ := h
  induction x with
  | bot => rw [Ideal.cos_bot, EReal.coe_mul_bot_of_pos (by norm_num)] at h1; exact absurd h1 (EReal.bot_ne_coe _)
  | top => rw [Ideal.cos_top, EReal.coe_mul_bot_of_pos (by norm_num)] at h1; exact absurd h1 (EReal.bot_ne_coe _)
  | coe θ =>
    rw [Ideal.cos_coe, ← EReal.coe_mul, EReal.coe_eq_coe_iff] at h1
    rw [Ideal.sin_coe, ← EReal.coe_mul, ← EReal.coe_zero, EReal.coe_lt_coe_iff] at h2
    exact ⟨θ, rfl, h1, h2⟩

/-- The angle of a column whose half sine is written. -/
theorem angle_by_sine (s : Fin 8) {x : EReal} {vC : ℝ} (hv : 0 < vC * Table.halfCos s)
    (h : ∃ θ : ℝ, x = (θ : EReal) ∧ 1 / 2 * Real.sin θ = Table.halfSin s ∧ 0 < vC * (1 / 2 * Real.cos θ)) :
    ∃ θ : ℝ, x = (θ : EReal) ∧ Real.cos θ = 2 * Table.halfCos s ∧ Real.sin θ = 2 * Table.halfSin s := by
  obtain ⟨θ, e, h1, h2⟩ := h
  refine ⟨θ, e, Trig.cos_of_sin h1 (by linarith [Table.circle s]) ?_, by linarith⟩
  have := mul_pos hv h2
  have hvv : 0 < vC * vC := mul_self_pos.mpr (fun h0 => by simp [h0] at hv)
  by_contra hn
  nlinarith [mul_nonneg hvv.le (neg_nonneg.mpr (not_lt.mp hn))]

/-- The angle of a column whose half cosine is written. -/
theorem angle_by_cosine (s : Fin 8) {x : EReal} (hv : 0 < Table.halfSin s)
    (h : ∃ θ : ℝ, x = (θ : EReal) ∧ 1 / 2 * Real.cos θ = Table.halfCos s ∧ 0 < 1 / 2 * Real.sin θ) :
    ∃ θ : ℝ, x = (θ : EReal) ∧ Real.cos θ = 2 * Table.halfCos s ∧ Real.sin θ = 2 * Table.halfSin s := by
  obtain ⟨θ, e, h1, h2⟩ := h
  exact ⟨θ, e, by linarith, Trig.sin_of_cos h1 (by linarith [Table.circle s]) hv h2⟩

/-- The columns whose half sine is written. -/
def written : Fin 8 → BitVec 1 := ![1#1, 1#1, 0#1, 0#1, 0#1, 1#1, 0#1, 1#1]

theorem written_eq (s : Fin 8) :
    IntOp.ori (IntOp.ori (IntOp.cmpi .sle (BitVec.ofNat 32 s.val) 1#32) (IntOp.cmpi .eq (BitVec.ofNat 32 s.val) 5#32))
      (IntOp.cmpi .eq (BitVec.ofNat 32 s.val) 7#32) = written s := by
  revert s; decide

theorem angular_at (h : (fn (F := Ideal) d z q tr).2.2.2.2.2.2.2 = fun _ => 1#1) (a : Fin 4) (s : Fin 8) : byShift q a s := by
  have h := congrFun h (ix2 a s)
  dsimp only [fn, fn_part1, fn_part2, fn_part3, fn_part4, fn_part5, fn_part6] at h
  unfold fn_where at h
  pointwise at h
  rw [written_eq] at h
  have pos : ∀ {a b v : ℝ}, 0 < a → 0 < b → 0 < v → 0 < v * (Real.sqrt a * (Real.sqrt b)⁻¹) :=
    fun ha hb hv => mul_pos hv (Table.root_pos ha hb)
  have neg : ∀ {a b v : ℝ}, 0 < a → 0 < b → 0 < v → 0 < (-v) * (-(Real.sqrt a * (Real.sqrt b)⁻¹)) :=
    fun ha hb hv => by rw [neg_mul_neg]; exact mul_pos hv (Table.root_pos ha hb)
  unfold byShift
  match s with
  | ⟨0, _⟩ => exact angle_by_sine 0 (pos (by norm_num) (by norm_num) (by norm_num)) (by_sine Consts.hs0 Consts.hs3 h)
  | ⟨1, _⟩ => exact angle_by_sine 1 (pos (by norm_num) (by norm_num) (by norm_num)) (by_sine Consts.hs1 Consts.hs2 h)
  | ⟨2, _⟩ => exact angle_by_cosine 2 (Table.root_pos (by norm_num) (by norm_num)) (by_cosine Consts.hs1 h)
  | ⟨3, _⟩ => exact angle_by_cosine 3 (Table.root_pos (by norm_num) (by norm_num)) (by_cosine Consts.hc3 h)
  | ⟨4, _⟩ => exact angle_by_cosine 4 (Table.root_pos (by norm_num) (by norm_num)) (by_cosine Consts.hc4 h)
  | ⟨5, _⟩ => exact angle_by_sine 5 (neg (by norm_num) (by norm_num) (by norm_num)) (by_sine Consts.hs5 Consts.hc5 h)
  | ⟨6, _⟩ => exact angle_by_cosine 6 (Table.root_pos (by norm_num) (by norm_num)) (by_cosine Consts.hc6 h)
  | ⟨7, _⟩ => exact angle_by_sine 7 (neg (by norm_num) (by norm_num) (by norm_num)) (by_sine Consts.hs7 Consts.hc7 h)

/-- The precondition's eight parts, read. -/
theorem good (h : (fn (F := Ideal) d z q tr).1 = (fun _ => 1#1)
    ∧ (fn (F := Ideal) d z q tr).2.1 = (fun _ => 1#1)
    ∧ (fn (F := Ideal) d z q tr).2.2.1 = (fun _ => 1#1)
    ∧ (fn (F := Ideal) d z q tr).2.2.2.1 = (fun _ => 1#1)
    ∧ (fn (F := Ideal) d z q tr).2.2.2.2.1 = (fun _ => 1#1)
    ∧ (fn (F := Ideal) d z q tr).2.2.2.2.2.1 = (fun _ => 1#1)
    ∧ (fn (F := Ideal) d z q tr).2.2.2.2.2.2.1 = (fun _ => 1#1)
    ∧ (fn (F := Ideal) d z q tr).2.2.2.2.2.2.2 = (fun _ => 1#1)) : Good d q tr := by
  obtain ⟨h1, h2, h3, h4, h5, h6, h7, h8⟩ := h
  choose n hn using listed_at h4
  exact ⟨symmetric_at h1, apart_at h2, triangle_at h3,
    ⟨n, hn, fun i => increasing_at h5 i (n i) (fun t => (hn i t).2.1) (fun t => (hn i t).2.2.1)⟩,
    fun a s => (powers_at h6 a s).1, fun a s => (powers_at h6 a s).2, radial_at h7, angular_at h8⟩

end Cert.Pre_problem_inputs.Read

end
-- ==== Proof.Ref.lean ====
/-
  The reference's summand at one listed pair of neighbours, read as a number.
-/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.ShloMosaic.StableHlo

/-- The word of a position below 128, read signed and clamped, is the position. -/
theorem word_val (a : Fin 128) : min (BitVec.ofNat 32 a.val).toInt.toNat (128 - 1) = a.val := by
  revert a; decide

/-- The word of a position below 128 is not negative, so it is not moved up. -/
theorem word_wrap (a : Fin 128) : Scalar.select (IntOp.cmpi .slt (BitVec.ofNat 32 a.val) 0#32) (IntOp.addi (BitVec.ofNat 32 a.val) 128#32) (BitVec.ofNat 32 a.val)
    = BitVec.ofNat 32 a.val := by
  revert a; decide

/-- A gather of single elements of a matrix: the element at the two positions listed. -/
theorem gather_pair {α : Type} (x : S128x128.Idx → α) (idx : IVec S128x8001x2 32) (i : Fin 128) (t : Fin 8001) (a b : Fin 128)
    (ha : idx (ix3 i t 0) = BitVec.ofNat 32 a.val) (hb : idx (ix3 i t 1) = BitVec.ofNat 32 b.val) :
    Host.gather gather_S128x128_S128x8001x2_S128x8001_n_01_n_n_01_2_11 x idx (ix2 i t) = x (ix2 a b) := by
  set d := gather_S128x128_S128x8001x2_S128x8001_n_01_n_n_01_2_11
  unfold Host.gather
  congr 1
  funext c
  refine Fin.ext ?_
  show d.start (ix2 i t) idx c + d.batchCoord (ix2 i t) c + d.offCoord (ix2 i t) c = _
  have hc : c = 0 ∨ c = 1 := by
    match c with
    | ⟨0, _⟩ => exact Or.inl rfl
    | ⟨1, _⟩ => exact Or.inr rfl
  have hm : c ∈ ([0, 1] : List (Fin 2)) := by rcases hc with rfl | rfl <;> decide
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos (show c ∈ d.startIndexMap from hm)]
  rcases hc with rfl | rfl
  · have hsi : d.siIdx (ix2 i t) ⟨List.idxOf (0 : Fin 2) d.startIndexMap, List.idxOf_lt_length_iff.2 hm⟩ = ix3 i t 0 := by
      funext b; refine Fin.ext ?_
      match b with
      | ⟨0, _⟩ => rfl
      | ⟨1, _⟩ => rfl
      | ⟨2, _⟩ => rfl
    rw [hsi, ha]
    exact word_val a
  · have hsi : d.siIdx (ix2 i t) ⟨List.idxOf (1 : Fin 2) d.startIndexMap, List.idxOf_lt_length_iff.2 hm⟩ = ix3 i t 1 := by
      funext b; refine Fin.ext ?_
      match b with
      | ⟨0, _⟩ => rfl
      | ⟨1, _⟩ => rfl
      | ⟨2, _⟩ => rfl
    rw [hsi, hb]
    exact word_val b

/-- A gather of single elements of a vector: the element at the position listed. -/
theorem gather_one {α : Type} (x : S128.Idx → α) (idx : IVec S128x8001x1 32) (i : Fin 128) (t : Fin 8001) (a : Fin 128)
    (ha : idx (ix3 i t 0) = BitVec.ofNat 32 a.val) :
    Host.gather gather_S128_S128x8001x1_S128x8001_n_0_n_n_0_2_1 x idx (ix2 i t) = x (ix1 a) := by
  set d := gather_S128_S128x8001x1_S128x8001_n_0_n_n_0_2_1
  unfold Host.gather
  congr 1
  funext c
  obtain rfl : c = 0 := Subsingleton.elim _ _
  refine Fin.ext ?_
  show d.start (ix2 i t) idx 0 + d.batchCoord (ix2 i t) 0 + d.offCoord (ix2 i t) 0 = _
  have hm : (0 : Fin 1) ∈ ([0] : List (Fin 1)) := List.mem_singleton.mpr rfl
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos (show (0 : Fin 1) ∈ d.startIndexMap from hm)]
  have hsi : d.siIdx (ix2 i t) ⟨List.idxOf (0 : Fin 1) d.startIndexMap, List.idxOf_lt_length_iff.2 hm⟩ = ix3 i t 0 := by
    funext b; refine Fin.ext ?_
    match b with
    | ⟨0, _⟩ => rfl
    | ⟨1, _⟩ => rfl
    | ⟨2, _⟩ => rfl
  rw [hsi, ha]
  exact word_val a

section
variable (V0 : Valuation τ sig (Elt Ideal))

/-- The argument arrays. -/
abbrev dist : S128x128.Idx → EReal := V0 (Proc.devRef .tc main_arg0)
abbrev spec : S128.Idx → EReal := V0 (Proc.devRef .tc main_arg1)
abbrev quad : S32x4.Idx → EReal := V0 (Proc.devRef .tc main_arg2)
abbrev trip : S128x8001x3.Idx → BitVec 32 := V0 (Proc.devRef .tc main_arg3)

variable {V0} {i : Fin 128} {t : Fin 8001} {j k : Fin 128}

theorem v1_at : res_main_v1 V0 (ix2 i t) = trip V0 (ix3 i t 0) := by pointwise [res_main_v1]
theorem v3_at : res_main_v3 V0 (ix2 i t) = trip V0 (ix3 i t 1) := by pointwise [res_main_v3]
theorem v5_at : res_main_v5 V0 (ix2 i t) = trip V0 (ix3 i t 2) := by pointwise [res_main_v5]

theorem v19_at (hi : trip V0 (ix3 i t 0) = BitVec.ofNat 32 i.val) (hj : trip V0 (ix3 i t 1) = BitVec.ofNat 32 j.val) :
    res_main_v19 V0 (ix2 i t) = dist V0 (ix2 i j) := by
  unfold res_main_v19
  refine gather_pair _ _ i t i j ?_ ?_
  · pointwise [v1_at, v3_at, hi, hj]
    exact word_wrap _
  · pointwise [v1_at, v3_at, hi, hj]
    exact word_wrap _

theorem v33_at (hi : trip V0 (ix3 i t 0) = BitVec.ofNat 32 i.val) (hk : trip V0 (ix3 i t 2) = BitVec.ofNat 32 k.val) :
    res_main_v33 V0 (ix2 i t) = dist V0 (ix2 i k) := by
  unfold res_main_v33
  refine gather_pair _ _ i t i k ?_ ?_
  · pointwise [v1_at, v5_at, hi, hk]
    exact word_wrap _
  · pointwise [v1_at, v5_at, hi, hk]
    exact word_wrap _

theorem v47_at (hj : trip V0 (ix3 i t 1) = BitVec.ofNat 32 j.val) (hk : trip V0 (ix3 i t 2) = BitVec.ofNat 32 k.val) :
    res_main_v47 V0 (ix2 i t) = dist V0 (ix2 j k) := by
  unfold res_main_v47
  refine gather_pair _ _ i t j k ?_ ?_
  · pointwise [v3_at, v5_at, hj, hk]
    exact word_wrap _
  · pointwise [v3_at, v5_at, hj, hk]
    exact word_wrap _

end

/-- The cutoff function of the reference. -/
def cut (r : EReal) : EReal :=
  Ideal.ofBits .f32 0x3F000000#32 * Ideal.cos (Ideal.div (Ideal.ofBits .f32 0x40490FDB#32 * r) (Ideal.ofBits .f32 0x40600000#32))
    + Ideal.ofBits .f32 0x3F000000#32

/-- The cosine of the angle between two neighbours, times 0.95. -/
def cosAngle (a b e : EReal) : EReal :=
  Ideal.ofBits .f32 0x3F733333#32 * Ideal.div (a * a + b * b - e * e)
    (min (Ideal.ofBits .f32 0x7F800000#32) (max (Ideal.ofBits .f32 0x2EDBE6FF#32) (Ideal.ofBits .f32 0x40000000#32 * a * b)))

/-- The reference's summand for the centre's distances `a`, `b` to two neighbours, their distance `e`, their species
    `y`, `z` and the parameters: zeta, angular shift, eta, radial shift. -/
def term (ζ θ η s y z a b e : EReal) : EReal :=
  y * z * Ideal.ofBits .f32 0x40000000#32
    * Ideal.pow (Ideal.div (1 + Ideal.cos (Ideal.acos (cosAngle a b e) - θ)) (Ideal.ofBits .f32 0x40000000#32)) ζ
    * Ideal.exp (-η * ((Ideal.div (a + b) (Ideal.ofBits .f32 0x40000000#32) - s) * (Ideal.div (a + b) (Ideal.ofBits .f32 0x40000000#32) - s)))
    * cut a * cut b
    * FloatOps.uitofp (F := Ideal) .f32 (IntOp.andi (BitVec.ofBool (decide (a < Ideal.ofBits .f32 0x40600000#32)))
        (BitVec.ofBool (decide (b < Ideal.ofBits .f32 0x40600000#32))))

section
variable {V0 : Valuation τ sig (Elt Ideal)} {i : Fin 128} {t : Fin 8001} {j k : Fin 128}

/-- The reference's summand at a listed pair. -/
theorem v149_at (p : Fin 32) (hi : trip V0 (ix3 i t 0) = BitVec.ofNat 32 i.val)
    (hj : trip V0 (ix3 i t 1) = BitVec.ofNat 32 j.val) (hk : trip V0 (ix3 i t 2) = BitVec.ofNat 32 k.val) :
    res_main_v149 V0 (ix3 p i t) = term (quad V0 (ix2 p 0)) (quad V0 (ix2 p 1)) (quad V0 (ix2 p 2)) (quad V0 (ix2 p 3))
      (spec V0 (ix1 j)) (spec V0 (ix1 k)) (dist V0 (ix2 i j)) (dist V0 (ix2 i k)) (dist V0 (ix2 j k)) := by
  unfold res_main_v149
  pointwise [res_main_v106, res_main_v88, res_main_v89]
  rw [gather_one _ _ i t j (by pointwise [v3_at, hj]; exact word_wrap _),
    gather_one _ _ i t k (by pointwise [v5_at, hk]; exact word_wrap _),
    v19_at hi hj, v33_at hi hk, v47_at hj hk]
  rfl

/-- The reference's result, when every entry of the list names its centre and two atoms. -/
theorem result_at (p : Fin 32) (n : Fin 8001 → Fin 128 × Fin 128)
    (hi : ∀ t, trip V0 (ix3 i t 0) = BitVec.ofNat 32 i.val)
    (hj : ∀ t, trip V0 (ix3 i t 1) = BitVec.ofNat 32 (n t).1.val)
    (hk : ∀ t, trip V0 (ix3 i t 2) = BitVec.ofNat 32 (n t).2.val) :
    transpose S128x32 [1, 0] (Host.reduceAdd (F := Ideal) (φ := .f32) (res_main_v149 V0) (constant S_ .f32 0x00000000#32)
        reducesTo_S32x128x8001_S32x128_d2 h_S_) transposes_S32x128_S128x32_1_0 (ix2 i p)
      = ∑ t, term (quad V0 (ix2 p 0)) (quad V0 (ix2 p 1)) (quad V0 (ix2 p 2)) (quad V0 (ix2 p 3))
        (spec V0 (ix1 (n t).1)) (spec V0 (ix1 (n t).2)) (dist V0 (ix2 i (n t).1)) (dist V0 (ix2 i (n t).2))
        (dist V0 (ix2 (n t).1 (n t).2)) := by
  pointwise
  exact Finset.sum_congr rfl fun t _ => v149_at p (hi t) (hj t) (hk t)
end

end Cert.ReferenceIdeal.Read
-- ==== Proof.Equation.lean ====
/-
  One pair of neighbours: twice what the kernel adds for it is the reference's summand. And the kernel's sum over all
  ordered pairs is the reference's sum over the list.
-/
module

public import proofs.«01_k».proof.Proof.Kern
public import proofs.«01_k».proof.Proof.Pre
public import proofs.«01_k».proof.Proof.Ref
public import proofs.«01_k».proof.Proof.Trig

@[expose] public section

noncomputable section

namespace Cert.Equation

open Idealize.ShloMosaic Cert.KernelIdeal.Body Cert.Pre_problem_inputs.Read Cert.ReferenceIdeal.Read

/-! ### The pieces, at real numbers -/

theorem fade_eq (r : ℝ) : fade r = cut r := by
  unfold fade cut
  rw [Consts.pi, Consts.cutoff, Consts.half, Ideal.div_coe (by norm_num), ← EReal.coe_mul, ← EReal.coe_mul, ← EReal.coe_mul]
  rw [show (13176795 / 14680064 : ℝ) * r = 13176795 / 4194304 * r * (1 / (7 / 2)) by ring]

theorem clipped_eq {a b e : ℝ} (ha : 0 < a) (hb : 0 < b) (h1 : e ≤ a + b) (h2 : a ≤ b + e) (h3 : b ≤ a + e) :
    clipped a b e = ((Trig.scaledCos a b e : ℝ) : EReal) := by
  have hm := Trig.scaledCos_mem ha hb h1 h2 h3
  unfold clipped
  rw [Consts.scale, Consts.neg_scale, Consts.half_scale, Ideal.div_coe hb.ne', Ideal.div_coe ha.ne', one_mul, one_mul]
  simp only [← EReal.coe_mul, ← EReal.coe_add, ← EReal.coe_sub]
  rw [show (15938355 / 33554432 : ℝ) * a * (1 / b) + 15938355 / 33554432 * (1 / a) * b - 15938355 / 33554432 * e * e * (1 / a * (1 / b))
      = Trig.scaledCos a b e by rw [← Trig.kernel_form ha hb]; norm_num [Trig.scale]]
  rw [max_eq_right (EReal.coe_le_coe_iff.mpr hm.1), min_eq_right (EReal.coe_le_coe_iff.mpr hm.2)]

theorem cosAngle_eq {a b e : ℝ} (ha : 2748779 / 274877906944 ≤ a) (hb : 2748779 / 274877906944 ≤ b) :
    cosAngle a b e = ((Trig.scaledCos a b e : ℝ) : EReal) := by
  have ha' : 0 < a := lt_of_lt_of_le (by norm_num) ha
  have hb' : 0 < b := lt_of_lt_of_le (by norm_num) hb
  have hp : (14411519 / 144115188075855872 : ℝ) ≤ 2 * a * b := by
    have := mul_le_mul ha hb (by norm_num) ha'.le
    rw [mul_assoc]
    refine le_trans ?_ (mul_le_mul_of_nonneg_left this (by norm_num))
    norm_num
  unfold cosAngle
  rw [Consts.scale, Consts.top, Consts.least_product, Consts.two]
  simp only [← EReal.coe_mul, ← EReal.coe_add, ← EReal.coe_sub]
  rw [max_eq_right (EReal.coe_le_coe_iff.mpr hp), min_eq_right le_top, Ideal.div_coe (by positivity), ← EReal.coe_mul, ← EReal.coe_mul]
  congr 1
  unfold Trig.scaledCos
  rw [div_eq_mul_one_div (a * a + b * b - e * e)]

theorem angularOf_eq (p : Fin 32) {c θ : ℝ} (h1 : -1 ≤ c) (h2 : c ≤ 1) (hc : Real.cos θ = 2 * Table.halfCos (p.val % 8))
    (hs : Real.sin θ = 2 * Table.halfSin (p.val % 8)) :
    angularOf p c = Ideal.pow (Ideal.div (1 + Ideal.cos (Ideal.acos c - (θ : EReal))) ((2 : ℝ) : EReal)) ((32 : ℝ) : EReal) := by
  have h := Trig.angular_form h1 h2 hc hs
  have hq : ¬ (1 - c * c < 0) := by nlinarith
  rw [Ideal.acos_coe, if_pos ⟨h1, h2⟩, ← EReal.coe_sub, Ideal.cos_coe, ← EReal.coe_one, ← EReal.coe_add, Ideal.div_coe (by norm_num),
    ← EReal.coe_mul, ← div_eq_mul_one_div, h]
  show _ = ((Real.rpow _ 32 : ℝ) : EReal)
  rw [Trig.pow_form, ← Trig.squarings]
  unfold angularOf square
  rw [Consts.half, ← EReal.coe_one]
  simp only [← EReal.coe_mul, ← EReal.coe_sub]
  rw [Ideal.sqrt_coe, if_neg hq]
  simp only [← EReal.coe_mul, ← EReal.coe_add]

theorem radialOf_eq (p : Fin 32) (a b : ℝ) :
    radialOf p (Ideal.ofBits .f32 0x3F000000#32 * (a : EReal) + Ideal.ofBits .f32 0x3F000000#32 * (b : EReal))
      = Ideal.exp (-((8 : ℝ) : EReal)
        * ((Ideal.div ((a : EReal) + (b : EReal)) ((2 : ℝ) : EReal) - ((Table.shift (p.val / 8) : ℝ) : EReal))
          * (Ideal.div ((a : EReal) + (b : EReal)) ((2 : ℝ) : EReal) - ((Table.shift (p.val / 8) : ℝ) : EReal)))) := by
  unfold radialOf
  rw [Consts.half, ← EReal.coe_add, Ideal.div_coe (by norm_num)]
  simp only [← EReal.coe_mul, ← EReal.coe_add, ← EReal.coe_sub, ← EReal.coe_neg]
  rw [Ideal.exp2_coe, Ideal.exp_coe, Trig.radial_form]
  congr 3
  ring

/-- A distance that is at least the least one and below the cutoff is a real number. -/
theorem within {a : EReal} (h1 : Ideal.ofBits .f32 0x3727C5AC#32 ≤ a) (h2 : a < Ideal.ofBits .f32 0x40600000#32) :
    ∃ r : ℝ, a = r ∧ 2748779 / 274877906944 ≤ r := by
  rw [Consts.least_distance] at h1
  induction a with
  | bot => exact absurd (le_bot_iff.mp h1) (EReal.coe_ne_bot _)
  | top => exact absurd h2 not_top_lt
  | coe r => exact ⟨r, rfl, EReal.coe_le_coe_iff.mp h1⟩

theorem between {a : EReal} {s : ℝ} (h1 : Ideal.ofBits .f32 0x3727C5AC#32 ≤ a) (h2 : a ≤ s) : ∃ r : ℝ, a = r := by
  rw [Consts.least_distance] at h1
  induction a with
  | bot => exact absurd (le_bot_iff.mp h1) (EReal.coe_ne_bot _)
  | top => exact absurd (top_le_iff.mp h2) (EReal.coe_ne_top _)
  | coe r => exact ⟨r, rfl⟩

/-! ### One pair -/

/-- What the kernel adds to column `p` of atom `n` for the pair `j`, `k`. -/
def pair (d : FVec Ideal ⟨2, ![128, 128]⟩ .f32) (z : FVec Ideal ⟨1, ![128]⟩ .f32) (n : Fin 128) (p : Fin 32) (j k : Fin 128) : EReal :=
  angularOf p (clipped (d (ix2 j n)) (d (ix2 n k)) (d (ix2 j k)))
    * ((if j ≠ k then
        (if d (ix2 j n) < Ideal.ofBits .f32 0x40600000#32 ∧ j ≠ n then z (ix1 j) * fade (d (ix2 j n)) else 0)
          * (if d (ix2 n k) < Ideal.ofBits .f32 0x40600000#32 ∧ k ≠ n then z (ix1 k) * fade (d (ix2 n k)) else 0)
        else 0)
      * radialOf p (Ideal.ofBits .f32 0x3F000000#32 * d (ix2 j n) + Ideal.ofBits .f32 0x3F000000#32 * d (ix2 n k)))

variable {d : FVec Ideal ⟨2, ![128, 128]⟩ .f32} {z : FVec Ideal ⟨1, ![128]⟩ .f32} {q : FVec Ideal ⟨2, ![32, 4]⟩ .f32}
  {tr : IVec ⟨3, ![128, 8001, 3]⟩ 32}

theorem clipped_comm (a b e : EReal) : clipped a b e = clipped b a e := by
  unfold clipped
  rw [add_comm (_ * a * _), mul_right_comm _ a, mul_right_comm _ (Ideal.div 1 a), mul_comm (Ideal.div 1 a) (Ideal.div 1 b)]

theorem pair_comm (hd : ∀ i j, d (ix2 i j) = d (ix2 j i)) (n : Fin 128) (p : Fin 32) (j k : Fin 128) :
    pair d z n p j k = pair d z n p k j := by
  unfold pair
  rw [hd j n, hd n k, hd j k, clipped_comm, add_comm (_ * d (ix2 n j)),
    mul_comm (if d (ix2 n j) < _ ∧ j ≠ n then _ else _)]
  simp only [ne_comm (a := j) (b := k)]

theorem pair_same (n : Fin 128) (p : Fin 32) (j : Fin 128) : pair d z n p j j = 0 := by
  unfold pair
  rw [if_neg (fun h => h rfl), zero_mul, mul_zero]

theorem pair_self (n : Fin 128) (p : Fin 32) (k : Fin 128) : pair d z n p n k = 0 := by
  unfold pair
  rw [if_neg (c := d (ix2 n n) < _ ∧ n ≠ n) (fun h => h.2 rfl), zero_mul, ite_self, zero_mul, mul_zero]

theorem weight_one : FloatOps.uitofp (F := Ideal) .f32 (1#1) = 1 := by
  show (((1#1 : BitVec 1).toNat : ℝ) : EReal) = 1
  simp

theorem weight_zero : FloatOps.uitofp (F := Ideal) .f32 (0#1) = 0 := by
  show (((0#1 : BitVec 1).toNat : ℝ) : EReal) = 0
  simp

/-- Twice the kernel's number is the reference's. -/
theorem pair_eq (g : Good d q tr) {n j k : Fin 128} (p : Fin 32) (hjk : j ≠ k) (hj : j ≠ n) (hk : k ≠ n) :
    2 * pair d z n p j k = term (q (ix2 p 0)) (q (ix2 p 1)) (q (ix2 p 2)) (q (ix2 p 3)) (z (ix1 j)) (z (ix1 k))
      (d (ix2 n j)) (d (ix2 n k)) (d (ix2 j k)) := by
  have hp : p = column ⟨p.val / 8, by omega⟩ ⟨p.val % 8, Nat.mod_lt _ (by omega)⟩ :=
    Fin.ext (by show p.val = p.val / 8 * 8 + p.val % 8; omega)
  obtain ⟨θ, hθ, hc, hs⟩ := g.angular ⟨p.val / 8, by omega⟩ ⟨p.val % 8, Nat.mod_lt _ (by omega)⟩
  have hz := g.zeta ⟨p.val / 8, by omega⟩ ⟨p.val % 8, Nat.mod_lt _ (by omega)⟩
  have he := g.eta ⟨p.val / 8, by omega⟩ ⟨p.val % 8, Nat.mod_lt _ (by omega)⟩
  have hr := g.radial ⟨p.val / 8, by omega⟩ ⟨p.val % 8, Nat.mod_lt _ (by omega)⟩
  rw [← hp] at hθ hz he hr
  have t1 := g.triangle n j k hj.symm hk.symm hjk
  have t2 := g.triangle k n j hk (Ne.symm hjk) hj.symm
  have t3 := g.triangle j n k hj hjk hk.symm
  rw [g.symm k n, g.symm k j] at t2
  rw [g.symm j n] at t3
  have la := g.apart n j hj.symm
  have lb := g.apart n k hk.symm
  have le := g.apart j k hjk
  unfold pair term
  rw [hθ, hz, he, hr, g.symm j n, if_pos hjk]
  generalize d (ix2 n j) = a at *
  generalize d (ix2 n k) = b at *
  generalize d (ix2 j k) = e at *
  by_cases hin : a < Ideal.ofBits .f32 0x40600000#32 ∧ b < Ideal.ofBits .f32 0x40600000#32
  · obtain ⟨ha, hb⟩ := hin
    rw [if_pos ⟨ha, hj⟩, if_pos ⟨hb, hk⟩, decide_eq_true ha, decide_eq_true hb]
    obtain ⟨a, rfl, wa⟩ := within la ha
    obtain ⟨b, rfl, wb⟩ := within lb hb
    obtain ⟨e, rfl⟩ := between le (s := a + b) (by rw [EReal.coe_add]; exact t1)
    rw [← EReal.coe_add, EReal.coe_le_coe_iff] at t1 t2 t3
    have pa : 0 < a := lt_of_lt_of_le (by norm_num) wa
    have pb : 0 < b := lt_of_lt_of_le (by norm_num) wb
    have hm := Trig.scaledCos_mem pa pb t1 t2 t3
    have hsc : Trig.scale ≤ 1 := by norm_num [Trig.scale]
    rw [clipped_eq pa pb t1 t2 t3, cosAngle_eq wa wb, angularOf_eq p (by linarith) (by linarith) hc hs, radialOf_eq,
      fade_eq, fade_eq, Consts.two, show IntOp.andi (BitVec.ofBool true) (BitVec.ofBool true) = 1#1 by decide, weight_one]
    rw [show (2 : EReal) = ((2 : ℝ) : EReal) from rfl]
    simp only [mul_one]
    ac_rfl
  · have hw : IntOp.andi (BitVec.ofBool (decide (a < Ideal.ofBits .f32 0x40600000#32)))
        (BitVec.ofBool (decide (b < Ideal.ofBits .f32 0x40600000#32))) = 0#1 := by
      by_cases ha : a < Ideal.ofBits .f32 0x40600000#32
      · rw [decide_eq_false (fun hb => hin ⟨ha, hb⟩), decide_eq_true ha]; decide
      · rw [decide_eq_false ha]
        cases decide (b < Ideal.ofBits .f32 0x40600000#32) <;> decide
    rw [hw, weight_zero, mul_zero]
    by_cases ha : a < Ideal.ofBits .f32 0x40600000#32
    · rw [if_neg (c := b < _ ∧ k ≠ n) (fun h => hin ⟨ha, h.1⟩), mul_zero, zero_mul, mul_zero, mul_zero]
    · rw [if_neg (c := a < _ ∧ j ≠ n) (fun h => ha h.1), zero_mul, zero_mul, mul_zero, mul_zero]

/-- The sum over all ordered pairs is the sum over the list. -/
theorem sum_eq (g : Good d q tr) (n : Fin 128) (p : Fin 32) (l : Fin 8001 → Fin 128 × Fin 128)
    (hl : ∀ t, (l t).1 < (l t).2 ∧ (l t).1 ≠ n ∧ (l t).2 ≠ n)
    (hs : ∀ (k : ℕ) (hk : k + 1 < 8001), Pairs.before (l ⟨k, Nat.lt_of_succ_lt hk⟩) (l ⟨k + 1, hk⟩)) :
    ∑ j, ∑ k, pair d z n p j k
      = ∑ t, term (q (ix2 p 0)) (q (ix2 p 1)) (q (ix2 p 2)) (q (ix2 p 3)) (z (ix1 (l t).1)) (z (ix1 (l t).2))
          (d (ix2 n (l t).1)) (d (ix2 n (l t).2)) (d (ix2 (l t).1 (l t).2)) := by
  rw [Pairs.sum_enumerated n l hs hl (pair d z n p) (pair_comm g.symm n p) (pair_same n p) (pair_self n p)]
  exact Finset.sum_congr rfl fun t _ => pair_eq g p (hl t).1.ne (hl t).2.1 (hl t).2.2

end Cert.Equation

end
-- ==== Proof.Agree.lean ====
/-
  The value claim: under the precondition the idealized kernel and the reference end with the same result.
-/
module

public import proofs.«01_k».proof.Defs
public import proofs.«01_k».proof.Proof.KernelValue
public import proofs.«01_k».proof.Proof.Equation
public import proofs.«01_k».proof.Proof.Gen.ReferenceIdeal.Run

@[expose] public section

set_option maxRecDepth 16384

noncomputable section

namespace Cert.Agree

open Idealize.ShloMosaic Idealize.ShloMosaic.TcCoe Idealize.SL.Sem
open Cert.KernelIdeal.Body (entry atom iblk dats pointOf placeOf)

section
variable (m : (ℓ : Loc Cert.KernelIdeal.nD Cert.KernelIdeal.τ Cert.KernelIdeal.sig) → Buf (Elt Ideal) ℓ)

/-- What a point adds for a pair, over the whole arrays. -/
theorem entry_eq (c : Dev Cert.KernelIdeal.nD) (n : Fin 128) (p : Fin 32) (j k : Fin 128) :
    entry (Cert.KernelIdeal.grid0.coords (pointOf n)) (iblk m c 0 (pointOf n)) (iblk m c 1 (pointOf n)) (iblk m c 2 (pointOf n))
        (iblk m c 3 (pointOf n)) (placeOf n) p j k
      = Equation.pair (Cert.KernelIdeal.Body.dist m c) (Cert.KernelIdeal.Body.spec m c) n p j k := by
  unfold entry Equation.pair
  rw [Cert.KernelIdeal.Body.cosine_at, Cert.KernelIdeal.Body.weight_at, Cert.KernelIdeal.Body.mean_at,
    Cert.KernelIdeal.Body.ucol8_at, Cert.KernelIdeal.Body.urow8_at, Cert.KernelIdeal.Body.iblk0_at, Cert.KernelIdeal.Body.iblk0_at,
    Cert.KernelIdeal.Body.iblk1_at, Cert.KernelIdeal.Body.iblk2_at, Cert.KernelIdeal.Body.iblk3_at, Cert.KernelIdeal.Body.atom_of]

variable (m' : (ℓ : Loc Cert.ReferenceIdeal.nD Cert.ReferenceIdeal.τ Cert.ReferenceIdeal.sig) → Buf (Elt Ideal) ℓ)

/-- The two results are equal. -/
theorem results_eq (c : Dev Cert.KernelIdeal.nD)
    (g : Cert.Pre_problem_inputs.Read.Good (Cert.KernelIdeal.Body.dist m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)))
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    transpose Cert.ReferenceIdeal.S128x32 [1, 0] (Host.reduceAdd (F := Ideal) (φ := .f32)
        (Cert.ReferenceIdeal.Value.res_main_v149 (StableHlo.launchContents m' c))
        (constant Cert.ReferenceIdeal.S_ .f32 0x00000000#32) Cert.ReferenceIdeal.Gen.reducesTo_S32x128x8001_S32x128_d2 Cert.ReferenceIdeal.Gen.h_S_)
        Cert.ReferenceIdeal.Gen.transposes_S32x128_S128x32_1_0
      = (dats m 0 c).arrAt 4 Cert.KernelIdeal.cfg0.N := by
  obtain ⟨l, hl, hs⟩ := g.listed
  funext x
  obtain ⟨n, p, rfl⟩ : ∃ (n : Fin 128) (p : Fin 32), x = ix2 n p := ⟨x 0, x 1, by funext a; match a with | ⟨0, _⟩ => rfl | ⟨1, _⟩ => rfl⟩
  have e3 : ∀ t, Cert.ReferenceIdeal.Read.trip (StableHlo.launchContents m' c) t
      = (m ((c.tc : Thread Cert.KernelIdeal.nD Cert.KernelIdeal.τ).loc Cert.KernelIdeal.main_arg3)) t := fun t => congrFun h3 t
  refine (Cert.ReferenceIdeal.Read.result_at p (l n) (fun t => (e3 _).trans (hl n t).1) (fun t => (e3 _).trans (hl n t).2.1)
    (fun t => (e3 _).trans (hl n t).2.2.1)).trans ?_
  refine Eq.trans ?_ (Cert.KernelIdeal.Body.final_at m c n p).symm
  simp only [entry_eq]
  rw [Equation.sum_eq g n p (l n) (fun t => (hl n t).2.2.2) (hs n)]
  show (∑ t, Cert.ReferenceIdeal.Read.term
      (m' ((c.tc : Thread Cert.ReferenceIdeal.nD Cert.ReferenceIdeal.τ).loc Cert.ReferenceIdeal.main_arg2) (ix2 p 0))
      (m' ((c.tc : Thread Cert.ReferenceIdeal.nD Cert.ReferenceIdeal.τ).loc Cert.ReferenceIdeal.main_arg2) (ix2 p 1))
      (m' ((c.tc : Thread Cert.ReferenceIdeal.nD Cert.ReferenceIdeal.τ).loc Cert.ReferenceIdeal.main_arg2) (ix2 p 2))
      (m' ((c.tc : Thread Cert.ReferenceIdeal.nD Cert.ReferenceIdeal.τ).loc Cert.ReferenceIdeal.main_arg2) (ix2 p 3))
      (m' ((c.tc : Thread Cert.ReferenceIdeal.nD Cert.ReferenceIdeal.τ).loc Cert.ReferenceIdeal.main_arg1) (ix1 (l n t).1))
      (m' ((c.tc : Thread Cert.ReferenceIdeal.nD Cert.ReferenceIdeal.τ).loc Cert.ReferenceIdeal.main_arg1) (ix1 (l n t).2))
      (m' ((c.tc : Thread Cert.ReferenceIdeal.nD Cert.ReferenceIdeal.τ).loc Cert.ReferenceIdeal.main_arg0) (ix2 n (l n t).1))
      (m' ((c.tc : Thread Cert.ReferenceIdeal.nD Cert.ReferenceIdeal.τ).loc Cert.ReferenceIdeal.main_arg0) (ix2 n (l n t).2))
      (m' ((c.tc : Thread Cert.ReferenceIdeal.nD Cert.ReferenceIdeal.τ).loc Cert.ReferenceIdeal.main_arg0) (ix2 (l n t).1 (l n t).2))) = _
  rw [h0, h1, h2]

end

theorem algebraic : algebraic_KernelIdeal_ReferenceIdeal_pre_problem_inputs (hKernelIdeal := Cert.KernelIdeal.Gen.facts)
    (hReferenceIdeal := Cert.ReferenceIdeal.Gen.facts) (hPre_problem_inputs := Cert.Pre_problem_inputs.Gen.facts) := by
  intro m g m' g' hpre hargs
  refine ⟨fun c => (dats m 0 c).arrAt 4 Cert.KernelIdeal.cfg0.N, Cert.KernelIdeal.Body.run_named m g, ?_⟩
  refine (θ_run _ _ _).mono (fun r h c => ?_) (Cert.ReferenceIdeal.Value.run (F := Ideal) m' g')
  obtain ⟨h0, h1, h2, h3⟩ := hargs c
  exact ⟨((h c).1).trans (results_eq m m' c (Cert.Pre_problem_inputs.Read.good (hpre c)) h0 h1 h2 h3), (h c).2⟩

end Cert.Agree

end
-- ==== Proof.lean ====
/-
  The proof of `Cert.Claim`: the frames of the two kernels by their own runs (Proof/PlainRun.lean, Proof/KernelRun.lean),
  the reference's by its generated run, the named constants by their rule, and the value claim by Proof/Agree.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_problem_inputs
public import proofs.«01_k».proof.Proof.PlainRun
public import proofs.«01_k».proof.Proof.KernelRun
public import proofs.«01_k».proof.Proof.Agree
public import Idealize.ShloMosaic.Adequacy
public import Idealize.ShloMosaic.Init

@[expose] public section

noncomputable section

namespace Cert.Proof

open Idealize.ShloMosaic Idealize.SL.Sem

/-- The reference ends with its arguments as launched and every counter at zero. -/
theorem reference_frame : quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Each named constant is the number whose nearest float is written. -/
theorem constants : preserves_Kernel_KernelIdeal :=
  ⟨IdealRules.named_const.statement Cert.KernelIdeal.κ "pi_over_rc" .f32 0x3F65C8FA#32 _ rfl,
    IdealRules.named_const.statement Cert.KernelIdeal.κ "hc0" .f32 0x3EFB14BE#32 _ rfl,
    IdealRules.named_const.statement Cert.KernelIdeal.κ "hc1" .f32 0x3ED4DB31#32 _ rfl,
    IdealRules.named_const.statement Cert.KernelIdeal.κ "hc5" .f32 0xBE8E39D9#32 _ rfl,
    IdealRules.named_const.statement Cert.KernelIdeal.κ "hc7" .f32 0xBEFB14BF#32 _ rfl,
    IdealRules.named_const.statement Cert.KernelIdeal.κ "hs3_twice" .f32 0x3F7B14BE#32 _ rfl,
    IdealRules.named_const.statement Cert.KernelIdeal.κ "hs4_half" .f32 0x3E7B14BE#32 _ rfl,
    IdealRules.named_const.statement Cert.KernelIdeal.κ "hs6" .f32 0x3E8E39D9#32 _ rfl,
    IdealRules.named_const.statement Cert.KernelIdeal.κ "neg_eta_log2e" .f32 0xC138AA3B#32 _ rfl⟩

theorem claim : Cert.Claim :=
  ⟨Cert.Kernel.Gen.facts, Cert.KernelIdeal.Gen.facts, Cert.ReferenceIdeal.Gen.facts, Cert.Pre_problem_inputs.Gen.facts,
    fun m g _ => Cert.Kernel.Plain.frame m g,
    fun m g _ => Cert.KernelIdeal.Body.frame m g,
    fun m g _ => Cert.KernelIdeal.Body.frame m g,
    reference_frame,
    fun m g _ => reference_frame m g trivial,
    constants,
    Agree.algebraic⟩

end Cert.Proof

end
